-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Segments (m : (ℓ : Loc Cert.Segments.nD Cert.Segments.τ Cert.Segments.sig) → Buf (Elt Bits) ℓ) : Prop :=
  True

def Pre_SegmentsReference (m : (ℓ : Loc Cert.SegmentsReference.nD Cert.SegmentsReference.τ Cert.SegmentsReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Segments [hSegments : Cert.Segments.Facts] : Prop :=
  ∀ (m : (ℓ : Loc Cert.Segments.nD Cert.Segments.τ Cert.Segments.sig) → Buf (Elt Bits) ℓ) (g : Dev Cert.Segments.nD → PrngReg), Pre_Segments m →
    θ_run (Cert.Segments.defs (F := Bits)) (onTc (τ := Cert.Segments.τ) (Cert.Segments.main (F := Bits))) ⟨m, fun _ => 0, g⟩ (fun r => (∀ c : Dev Cert.Segments.nD,
      r.2.mem ((c.tc : Thread Cert.Segments.nD Cert.Segments.τ).loc Cert.Segments.main_arg0) = m ((c.tc : Thread Cert.Segments.nD Cert.Segments.τ).loc Cert.Segments.main_arg0))
      ∧ r.2.sem = fun _ => 0)

def quiescent_SegmentsReference [hSegmentsReference : Cert.SegmentsReference.Facts] : Prop :=
  ∀ (m : (ℓ : Loc Cert.SegmentsReference.nD Cert.SegmentsReference.τ Cert.SegmentsReference.sig) → Buf (Elt Bits) ℓ) (g : Dev Cert.SegmentsReference.nD → PrngReg), Pre_SegmentsReference m →
    θ_run (Cert.SegmentsReference.defs (F := Bits)) (onTc (τ := Cert.SegmentsReference.τ) (Cert.SegmentsReference.main (F := Bits))) ⟨m, fun _ => 0, g⟩ (fun r => (∀ c : Dev Cert.SegmentsReference.nD,
      r.2.mem ((c.tc : Thread Cert.SegmentsReference.nD Cert.SegmentsReference.τ).loc Cert.SegmentsReference.main_arg0) = m ((c.tc : Thread Cert.SegmentsReference.nD Cert.SegmentsReference.τ).loc Cert.SegmentsReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Segments_SegmentsReference [hSegments : Cert.Segments.Facts] [hSegmentsReference : Cert.SegmentsReference.Facts] : Prop :=
  ∀ (m : (ℓ : Loc Cert.Segments.nD Cert.Segments.τ Cert.Segments.sig) → Buf (Elt Bits) ℓ) (g : Dev Cert.Segments.nD → PrngReg)
    (m' : (ℓ : Loc Cert.SegmentsReference.nD Cert.SegmentsReference.τ Cert.SegmentsReference.sig) → Buf (Elt Bits) ℓ) (g' : Dev Cert.SegmentsReference.nD → PrngReg), Pre_Segments m →
    (∀ c : Dev Cert.Segments.nD,
      m' ((c.tc : Thread Cert.SegmentsReference.nD Cert.SegmentsReference.τ).loc Cert.SegmentsReference.main_arg0) = m ((c.tc : Thread Cert.Segments.nD Cert.Segments.τ).loc Cert.Segments.main_arg0)) →
    ∃ (v0 : (c : Dev Cert.Segments.nD) → Buf (Elt Bits) ((c.tc : Thread Cert.Segments.nD Cert.Segments.τ).loc Cert.Segments.main_v24)) (v1 : (c : Dev Cert.Segments.nD) → Buf (Elt Bits) ((c.tc : Thread Cert.Segments.nD Cert.Segments.τ).loc Cert.Segments.main_v25)),
      θ_run (Cert.Segments.defs (F := Bits)) (onTc (τ := Cert.Segments.τ) (Cert.Segments.main (F := Bits))) ⟨m, fun _ => 0, g⟩ (fun r => ∀ c : Dev Cert.Segments.nD,
          r.2.mem ((c.tc : Thread Cert.Segments.nD Cert.Segments.τ).loc Cert.Segments.main_v24) = v0 c
          ∧ r.2.mem ((c.tc : Thread Cert.Segments.nD Cert.Segments.τ).loc Cert.Segments.main_v25) = v1 c
          ∧ r.2.mem ((c.tc : Thread Cert.Segments.nD Cert.Segments.τ).loc Cert.Segments.main_arg0) = m ((c.tc : Thread Cert.Segments.nD Cert.Segments.τ).loc Cert.Segments.main_arg0))
      ∧ θ_run (Cert.SegmentsReference.defs (F := Bits)) (onTc (τ := Cert.SegmentsReference.τ) (Cert.SegmentsReference.main (F := Bits))) ⟨m', fun _ => 0, g'⟩ (fun r => ∀ c : Dev Cert.SegmentsReference.nD,
          r.2.mem ((c.tc : Thread Cert.SegmentsReference.nD Cert.SegmentsReference.τ).loc Cert.SegmentsReference.main_v3) = v0 c
          ∧ r.2.mem ((c.tc : Thread Cert.SegmentsReference.nD Cert.SegmentsReference.τ).loc Cert.SegmentsReference.main_v5) = v1 c
          ∧ r.2.mem ((c.tc : Thread Cert.SegmentsReference.nD Cert.SegmentsReference.τ).loc Cert.SegmentsReference.main_arg0) = m' ((c.tc : Thread Cert.SegmentsReference.nD Cert.SegmentsReference.τ).loc Cert.SegmentsReference.main_arg0))

def Claim : Prop :=
  ∃ (hKernel : Cert.Kernel.Facts) (hKernelIdeal : Cert.KernelIdeal.Facts) (hReferenceIdeal : Cert.ReferenceIdeal.Facts) (hSegments : Cert.Segments.Facts) (hSegmentsReference : Cert.SegmentsReference.Facts),
    quiescent_Kernel (hKernel := hKernel)
    ∧ quiescent_KernelIdeal (hKernelIdeal := hKernelIdeal)
    ∧ quiescent_ReferenceIdeal (hReferenceIdeal := hReferenceIdeal)
    ∧ quiescent_Segments (hSegments := hSegments)
    ∧ quiescent_SegmentsReference (hSegmentsReference := hSegmentsReference)
    ∧ preserves_Kernel_KernelIdeal
    ∧ algebraic_KernelIdeal_ReferenceIdeal (hKernelIdeal := hKernelIdeal) (hReferenceIdeal := hReferenceIdeal)
    ∧ bitexact_Segments_SegmentsReference (hSegments := hSegments) (hSegmentsReference := hSegmentsReference)
-- ==== Kernel.lean ====
abbrev S4x1x128x128x128 : Shape := ⟨5, ![4, 1, 128, 128, 128]⟩
abbrev S4x4x256 : Shape := ⟨3, ![4, 4, 256]⟩
abbrev S8388608 : Shape := ⟨1, ![8388608]⟩
abbrev S4096 : Shape := ⟨1, ![4096]⟩
abbrev S33554432 : Shape := ⟨1, ![33554432]⟩
abbrev S256 : Shape := ⟨1, ![256]⟩
abbrev S2x8192 : Shape := ⟨2, ![2, 8192]⟩
abbrev S2x4x8192 : Shape := ⟨3, ![2, 4, 8192]⟩
abbrev S_ : Shape := ⟨0, ![]⟩
abbrev S1x8192 : Shape := ⟨2, ![1, 8192]⟩
abbrev S8192 : Shape := ⟨1, ![8192]⟩
abbrev S1x1x8192 : Shape := ⟨3, ![1, 1, 8192]⟩
abbrev S16 : Shape := ⟨1, ![16]⟩
abbrev S1x16 : Shape := ⟨2, ![1, 16]⟩
abbrev S1x1x16 : Shape := ⟨3, ![1, 1, 16]⟩
abbrev S4x4x128x128x128 : Shape := ⟨5, ![4, 4, 128, 128, 128]⟩

abbrev nBuf : Table → Nat
  | .hbm => 6
  | .local .scVector .vmem => 6
  | _ => 0

abbrev bufTy : (tb : Table) → Fin (nBuf tb) → BufTy
  | .hbm, ⟨0, _⟩ => ⟨S4x1x128x128x128, .f32⟩
  | .hbm, ⟨1, _⟩ => ⟨S4x4x256, .i32⟩
  | .hbm, ⟨2, _⟩ => ⟨S8388608, .f32⟩
  | .hbm, ⟨3, _⟩ => ⟨S4096, .i32⟩
  | .hbm, ⟨4, _⟩ => ⟨S33554432, .f32⟩
  | .hbm, ⟨5, _⟩ => ⟨S4x4x128x128x128, .f32⟩
  | .local .scVector .vmem, ⟨0, _⟩ => ⟨S256, .i32⟩
  | .local .scVector .vmem, ⟨1, _⟩ => ⟨S256, .i32⟩
  | .local .scVector .vmem, ⟨2, _⟩ => ⟨S256, .i32⟩
  | .local .scVector .vmem, ⟨3, _⟩ => ⟨S256, .i32⟩
  | .local .scVector .vmem, ⟨4, _⟩ => ⟨S2x8192, .f32⟩
  | .local .scVector .vmem, ⟨5, _⟩ => ⟨S2x4x8192, .f32⟩
  | _, _ => ⟨S4x1x128x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32 : BitVec 32 := 4#32
  let v33 : BitVec 32 := Scalar.muli v18 c4_i32
  let v34 : BitVec 32 := Scalar.addi v33 c0_i32_11
  let c256_i32 : BitVec 32 := 256#32
  let v35 : BitVec 32 := Scalar.muli v34 c256_i32
  ![v35.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2097152_i32 : BitVec 32 := 2097152#32
  let v29 : BitVec 32 := Scalar.muli v18 c2097152_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32 : BitVec 32 := 262144#32
  let v30 : BitVec 32 := Scalar.muli v28 c262144_i32
  let v31 : BitVec 32 := Scalar.addi v29 v30
  let c0_i32_20 : BitVec 32 := 0#32
  let v45 : BitVec 32 := Scalar.addi v31 c0_i32_20
  ![v45.toNat]
@[reducible] def k0_t1_loop : Scf.Loop 32 :=
  let c0_i32_25 : BitVec 32 := 0#32
  let c16_i32 : BitVec 32 := 16#32
  let v52 : BitVec 32 := Scalar.addi c0_i32_25 c16_i32
  let c1_i32_26 : BitVec 32 := 1#32
  ⟨c0_i32_25, v52, c1_i32_26⟩
def k0_cond1 (k0_t1 : Fin k0_t1_loop.trips) : BitVec 1 :=
  let c0_i32_25 : BitVec 32 := 0#32
  let c1_i32_26 : BitVec 32 := 1#32
  let arg15 : BitVec 32 := Scf.iv c0_i32_25 c1_i32_26 k0_t1
  let c2_i32_90 : BitVec 32 := 2#32
  let v142 : BitVec 32 := Scalar.muli arg15 c2_i32_90
  let c0_i32_91 : BitVec 32 := 0#32
  let v143 : BitVec 32 := Scalar.addi v142 c0_i32_91
  let c1_i32_92 : BitVec 32 := 1#32
  let v144 : BitVec 32 := Scalar.addi v143 c1_i32_92
  let c32_i32 : BitVec 32 := 32#32
  let v145 : BitVec 1 := Scalar.cmpi .slt v144 c32_i32
  let v146 : BitVec 32 := Scalar.extui v145
  let c0_i32_93 : BitVec 32 := 0#32
  let v147 : BitVec 1 := Scalar.cmpi .ne v146 c0_i32_93
  v147

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2097152_i32 : BitVec 32 := 2097152#32
  let v29 : BitVec 32 := Scalar.muli v18 c2097152_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32 : BitVec 32 := 262144#32
  let v30 : BitVec 32 := Scalar.muli v28 c262144_i32
  let v31 : BitVec 32 := Scalar.addi v29 v30
  let c0_i32_25 : BitVec 32 := 0#32
  let c1_i32_26 : BitVec 32 := 1#32
  let arg15 : BitVec 32 := Scf.iv c0_i32_25 c1_i32_26 k0_t1
  let c2_i32_90 : BitVec 32 := 2#32
  let v142 : BitVec 32 := Scalar.muli arg15 c2_i32_90
  let c0_i32_91 : BitVec 32 := 0#32
  let v143 : BitVec 32 := Scalar.addi v142 c0_i32_91
  let c1_i32_92 : BitVec 32 := 1#32
  let v144 : BitVec 32 := Scalar.addi v143 c1_i32_92
  let c8192_i32_182 : BitVec 32 := 8192#32
  let v274 : BitVec 32 := Scalar.muli v144 c8192_i32_182
  let v275 : BitVec 32 := Scalar.addi v31 v274
  ![v275.toNat]
def k0_off4 (i : grid0.Coords) (k0_t1 : Fin k0_t1_loop.trips) (c0_i32_91 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2097152_i32 : BitVec 32 := 2097152#32
  let v29 : BitVec 32 := Scalar.muli v18 c2097152_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32 : BitVec 32 := 262144#32
  let v30 : BitVec 32 := Scalar.muli v28 c262144_i32
  let v31 : BitVec 32 := Scalar.addi v29 v30
  let c0_i32_25 : BitVec 32 := 0#32
  let c1_i32_26 : BitVec 32 := 1#32
  let arg15 : BitVec 32 := Scf.iv c0_i32_25 c1_i32_26 k0_t1
  let c2_i32_90 : BitVec 32 := 2#32
  let v142 : BitVec 32 := Scalar.muli arg15 c2_i32_90
  let v143 : BitVec 32 := Scalar.addi v142 c0_i32_91
  let c8192_i32 : BitVec 32 := 8192#32
  let v148 : BitVec 32 := Scalar.muli v143 c8192_i32
  let v149 : BitVec 32 := Scalar.addi v31 v148
  ![v149.toNat]
def k0_cond2 (k0_t1 : Fin k0_t1_loop.trips) : BitVec 1 :=
  let c0_i32_25 : BitVec 32 := 0#32
  let c1_i32_26 : BitVec 32 := 1#32
  let arg15 : BitVec 32 := Scf.iv c0_i32_25 c1_i32_26 k0_t1
  let c2_i32_90 : BitVec 32 := 2#32
  let v142 : BitVec 32 := Scalar.muli arg15 c2_i32_90
  let c0_i32_91 : BitVec 32 := 0#32
  let v143 : BitVec 32 := Scalar.addi v142 c0_i32_91
  let c2_i32_97 : BitVec 32 := 2#32
  let v156 : BitVec 1 := Scalar.cmpi .sge v143 c2_i32_97
  let v157 : BitVec 32 := Scalar.extui v156
  let c0_i32_98 : BitVec 32 := 0#32
  let v158 : BitVec 1 := Scalar.cmpi .ne v157 c0_i32_98
  v158

def k0_off5 (i : grid0.Coords) (k0_t1 : Fin k0_t1_loop.trips) (c0_i32_184 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32_183 : BitVec 32 := 4#32
  let v275 : BitVec 32 := Scalar.muli v18 c4_i32_183
  let v276 : BitVec 32 := Scalar.addi v275 c0_i32_184
  let c2097152_i32_185 : BitVec 32 := 2097152#32
  let v277 : BitVec 32 := Scalar.muli v276 c2097152_i32_185
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32_10 : BitVec 32 := 262144#32
  let v32 : BitVec 32 := Scalar.muli v28 c262144_i32_10
  let v278 : BitVec 32 := Scalar.addi v277 v32
  let c0_i32_25 : BitVec 32 := 0#32
  let c1_i32_26 : BitVec 32 := 1#32
  let arg15 : BitVec 32 := Scf.iv c0_i32_25 c1_i32_26 k0_t1
  let c2_i32_90 : BitVec 32 := 2#32
  let v142 : BitVec 32 := Scalar.muli arg15 c2_i32_90
  let c0_i32_91 : BitVec 32 := 0#32
  let v143 : BitVec 32 := Scalar.addi v142 c0_i32_91
  let c2_i32_182 : BitVec 32 := 2#32
  let v274 : BitVec 32 := Scalar.subi v143 c2_i32_182
  let c8192_i32_186 : BitVec 32 := 8192#32
  let v279 : BitVec 32 := Scalar.muli v274 c8192_i32_186
  let v280 : BitVec 32 := Scalar.addi v278 v279
  ![v280.toNat]
@[reducible] def k0_t2_loop : Scf.Loop 32 :=
  let c0_i32_99 : BitVec 32 := 0#32
  let c512_i32 : BitVec 32 := 512#32
  let v159 : BitVec 32 := Scalar.addi c0_i32_99 c512_i32
  let c1_i32_100 : BitVec 32 := 1#32
  ⟨c0_i32_99, v159, c1_i32_100⟩
def k0_off6 (k0_t2 : Fin k0_t2_loop.trips) : Fin 2 → Nat :=
  let c0_i32_184 : BitVec 32 := 0#32
  let v276 : Index := Scalar.indexCast c0_i32_184
  let c0_i32_183 : BitVec 32 := 0#32
  let c0_i32_99 : BitVec 32 := 0#32
  let c1_i32_100 : BitVec 32 := 1#32
  let arg17 : BitVec 32 := Scf.iv c0_i32_99 c1_i32_100 k0_t2
  let c16_i32_182 : BitVec 32 := 16#32
  let v274 : BitVec 32 := Scalar.muli arg17 c16_i32_182
  let v275 : BitVec 32 := Scalar.addi c0_i32_183 v274
  let v277 : Index := Scalar.indexCast v275
  ![0, v277.toNat]
def k0_off7 (k0_t2 : Fin k0_t2_loop.trips) : Fin 3 → Nat :=
  let c0_i32_187 : BitVec 32 := 0#32
  let v297 : Index := Scalar.indexCast c0_i32_187
  let c0_i32_188 : BitVec 32 := 0#32
  let v298 : Index := Scalar.indexCast c0_i32_188
  let c0_i32_183 : BitVec 32 := 0#32
  let c0_i32_99 : BitVec 32 := 0#32
  let c1_i32_100 : BitVec 32 := 1#32
  let arg17 : BitVec 32 := Scf.iv c0_i32_99 c1_i32_100 k0_t2
  let c16_i32_182 : BitVec 32 := 16#32
  let v274 : BitVec 32 := Scalar.muli arg17 c16_i32_182
  let v275 : BitVec 32 := Scalar.addi c0_i32_183 v274
  let v299 : Index := Scalar.indexCast v275
  ![0, 0, v299.toNat]
def k0_off8 (k0_t2 : Fin k0_t2_loop.trips) : Fin 3 → Nat :=
  let c0_i32_191 : BitVec 32 := 0#32
  let v310 : Index := Scalar.indexCast c0_i32_191
  let c1_i32_192 : BitVec 32 := 1#32
  let v311 : Index := Scalar.indexCast c1_i32_192
  let c0_i32_183 : BitVec 32 := 0#32
  let c0_i32_99 : BitVec 32 := 0#32
  let c1_i32_100 : BitVec 32 := 1#32
  let arg17 : BitVec 32 := Scf.iv c0_i32_99 c1_i32_100 k0_t2
  let c16_i32_182 : BitVec 32 := 16#32
  let v274 : BitVec 32 := Scalar.muli arg17 c16_i32_182
  let v275 : BitVec 32 := Scalar.addi c0_i32_183 v274
  let v312 : Index := Scalar.indexCast v275
  ![0, 1, v312.toNat]
def k0_off9 (k0_t2 : Fin k0_t2_loop.trips) : Fin 3 → Nat :=
  let c0_i32_195 : BitVec 32 := 0#32
  let v323 : Index := Scalar.indexCast c0_i32_195
  let c2_i32_196 : BitVec 32 := 2#32
  let v324 : Index := Scalar.indexCast c2_i32_196
  let c0_i32_183 : BitVec 32 := 0#32
  let c0_i32_99 : BitVec 32 := 0#32
  let c1_i32_100 : BitVec 32 := 1#32
  let arg17 : BitVec 32 := Scf.iv c0_i32_99 c1_i32_100 k0_t2
  let c16_i32_182 : BitVec 32 := 16#32
  let v274 : BitVec 32 := Scalar.muli arg17 c16_i32_182
  let v275 : BitVec 32 := Scalar.addi c0_i32_183 v274
  let v325 : Index := Scalar.indexCast v275
  ![0, 2, v325.toNat]

def k0_chk1 (v285 : IVec S16 32) : Prop :=
  (∀ a x, ((![v285] : Fin 1 → IVec S16 32) a x).toNat < S256.size a) ∧
  (∀ a x, ((![v285] : Fin 1 → IVec S16 32) a x).toNat < S256.size a) ∧
  (∀ a x, ((![v285] : Fin 1 → IVec S16 32) a x).toNat < S256.size a) ∧
  (∀ a x, ((![v285] : Fin 1 → IVec S16 32) a x).toNat < S256.size a)
theorem k0_idx1_inb : ∀ (v285 : IVec S16 32) (k0_hw1 : k0_chk1 v285), ∀ a x, ((![v285] : Fin 1 → IVec S16 32) a x).toNat < S256.size a := fun v285 k0_hw1 => k0_hw1.1
theorem k0_idx2_inb : ∀ (v285 : IVec S16 32) (k0_hw1 : k0_chk1 v285), ∀ a x, ((![v285] : Fin 1 → IVec S16 32) a x).toNat < S256.size a := fun v285 k0_hw1 => k0_hw1.2.1
theorem k0_idx3_inb : ∀ (v285 : IVec S16 32) (k0_hw1 : k0_chk1 v285), ∀ a x, ((![v285] : Fin 1 → IVec S16 32) a x).toNat < S256.size a := fun v285 k0_hw1 => k0_hw1.2.2.1
theorem k0_idx4_inb : ∀ (v285 : IVec S16 32) (k0_hw1 : k0_chk1 v285), ∀ a x, ((![v285] : Fin 1 → IVec S16 32) a x).toNat < S256.size a := fun v285 k0_hw1 => k0_hw1.2.2.2
def k0_off10 (k0_t2 : Fin k0_t2_loop.trips) : Fin 3 → Nat :=
  let c0_i32_199 : BitVec 32 := 0#32
  let v336 : Index := Scalar.indexCast c0_i32_199
  let c3_i32_200 : BitVec 32 := 3#32
  let v337 : Index := Scalar.indexCast c3_i32_200
  let c0_i32_183 : BitVec 32 := 0#32
  let c0_i32_99 : BitVec 32 := 0#32
  let c1_i32_100 : BitVec 32 := 1#32
  let arg17 : BitVec 32 := Scf.iv c0_i32_99 c1_i32_100 k0_t2
  let c16_i32_182 : BitVec 32 := 16#32
  let v274 : BitVec 32 := Scalar.muli arg17 c16_i32_182
  let v275 : BitVec 32 := Scalar.addi c0_i32_183 v274
  let v338 : Index := Scalar.indexCast v275
  ![0, 3, v338.toNat]
def k0_off11 (i : grid0.Coords) (k0_t1 : Fin k0_t1_loop.trips) (c0_i32_103 : BitVec 32) (c0_i32_91 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32_102 : BitVec 32 := 4#32
  let v160 : BitVec 32 := Scalar.muli v18 c4_i32_102
  let v161 : BitVec 32 := Scalar.addi v160 c0_i32_103
  let c2097152_i32_104 : BitVec 32 := 2097152#32
  let v162 : BitVec 32 := Scalar.muli v161 c2097152_i32_104
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32_10 : BitVec 32 := 262144#32
  let v32 : BitVec 32 := Scalar.muli v28 c262144_i32_10
  let v163 : BitVec 32 := Scalar.addi v162 v32
  let c0_i32_25 : BitVec 32 := 0#32
  let c1_i32_26 : BitVec 32 := 1#32
  let arg15 : BitVec 32 := Scf.iv c0_i32_25 c1_i32_26 k0_t1
  let c2_i32_90 : BitVec 32 := 2#32
  let v142 : BitVec 32 := Scalar.muli arg15 c2_i32_90
  let v143 : BitVec 32 := Scalar.addi v142 c0_i32_91
  let c8192_i32_105 : BitVec 32 := 8192#32
  let v164 : BitVec 32 := Scalar.muli v143 c8192_i32_105
  let v165 : BitVec 32 := Scalar.addi v163 v164
  ![v165.toNat]
def k0_cond3 (k0_t1 : Fin k0_t1_loop.trips) : BitVec 1 :=
  let c0_i32_25 : BitVec 32 := 0#32
  let c1_i32_26 : BitVec 32 := 1#32
  let arg15 : BitVec 32 := Scf.iv c0_i32_25 c1_i32_26 k0_t1
  let c2_i32_134 : BitVec 32 := 2#32
  let v208 : BitVec 32 := Scalar.muli arg15 c2_i32_134
  let c1_i32_135 : BitVec 32 := 1#32
  let v209 : BitVec 32 := Scalar.addi v208 c1_i32_135
  let c1_i32_136 : BitVec 32 := 1#32
  let v210 : BitVec 32 := Scalar.addi v209 c1_i32_136
  let c32_i32_137 : BitVec 32 := 32#32
  let v211 : BitVec 1 := Scalar.cmpi .slt v210 c32_i32_137
  let v212 : BitVec 32 := Scalar.extui v211
  let c0_i32_138 : BitVec 32 := 0#32
  let v213 : BitVec 1 := Scalar.cmpi .ne v212 c0_i32_138
  v213

def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2097152_i32 : BitVec 32 := 2097152#32
  let v29 : BitVec 32 := Scalar.muli v18 c2097152_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32 : BitVec 32 := 262144#32
  let v30 : BitVec 32 := Scalar.muli v28 c262144_i32
  let v31 : BitVec 32 := Scalar.addi v29 v30
  let c0_i32_25 : BitVec 32 := 0#32
  let c1_i32_26 : BitVec 32 := 1#32
  let arg15 : BitVec 32 := Scf.iv c0_i32_25 c1_i32_26 k0_t1
  let c2_i32_134 : BitVec 32 := 2#32
  let v208 : BitVec 32 := Scalar.muli arg15 c2_i32_134
  let c1_i32_135 : BitVec 32 := 1#32
  let v209 : BitVec 32 := Scalar.addi v208 c1_i32_135
  let c1_i32_136 : BitVec 32 := 1#32
  let v210 : BitVec 32 := Scalar.addi v209 c1_i32_136
  let c8192_i32_182 : BitVec 32 := 8192#32
  let v274 : BitVec 32 := Scalar.muli v210 c8192_i32_182
  let v275 : BitVec 32 := Scalar.addi v31 v274
  ![v275.toNat]
def k0_cond4 (k0_t1 : Fin k0_t1_loop.trips) : BitVec 1 :=
  let c0_i32_25 : BitVec 32 := 0#32
  let c1_i32_26 : BitVec 32 := 1#32
  let arg15 : BitVec 32 := Scf.iv c0_i32_25 c1_i32_26 k0_t1
  let c2_i32_134 : BitVec 32 := 2#32
  let v208 : BitVec 32 := Scalar.muli arg15 c2_i32_134
  let c1_i32_135 : BitVec 32 := 1#32
  let v209 : BitVec 32 := Scalar.addi v208 c1_i32_135
  let c2_i32_143 : BitVec 32 := 2#32
  let v222 : BitVec 1 := Scalar.cmpi .sge v209 c2_i32_143
  let v223 : BitVec 32 := Scalar.extui v222
  let c0_i32_144 : BitVec 32 := 0#32
  let v224 : BitVec 1 := Scalar.cmpi .ne v223 c0_i32_144
  v224

def k0_off13 (i : grid0.Coords) (k0_t1 : Fin k0_t1_loop.trips) (c0_i32_184 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32_183 : BitVec 32 := 4#32
  let v275 : BitVec 32 := Scalar.muli v18 c4_i32_183
  let v276 : BitVec 32 := Scalar.addi v275 c0_i32_184
  let c2097152_i32_185 : BitVec 32 := 2097152#32
  let v277 : BitVec 32 := Scalar.muli v276 c2097152_i32_185
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32_10 : BitVec 32 := 262144#32
  let v32 : BitVec 32 := Scalar.muli v28 c262144_i32_10
  let v278 : BitVec 32 := Scalar.addi v277 v32
  let c0_i32_25 : BitVec 32 := 0#32
  let c1_i32_26 : BitVec 32 := 1#32
  let arg15 : BitVec 32 := Scf.iv c0_i32_25 c1_i32_26 k0_t1
  let c2_i32_134 : BitVec 32 := 2#32
  let v208 : BitVec 32 := Scalar.muli arg15 c2_i32_134
  let c1_i32_135 : BitVec 32 := 1#32
  let v209 : BitVec 32 := Scalar.addi v208 c1_i32_135
  let c2_i32_182 : BitVec 32 := 2#32
  let v274 : BitVec 32 := Scalar.subi v209 c2_i32_182
  let c8192_i32_186 : BitVec 32 := 8192#32
  let v279 : BitVec 32 := Scalar.muli v274 c8192_i32_186
  let v280 : BitVec 32 := Scalar.addi v278 v279
  ![v280.toNat]
@[reducible] def k0_t3_loop : Scf.Loop 32 :=
  let c0_i32_145 : BitVec 32 := 0#32
  let c512_i32_146 : BitVec 32 := 512#32
  let v225 : BitVec 32 := Scalar.addi c0_i32_145 c512_i32_146
  let c1_i32_147 : BitVec 32 := 1#32
  ⟨c0_i32_145, v225, c1_i32_147⟩
def k0_off14 (k0_t3 : Fin k0_t3_loop.trips) : Fin 2 → Nat :=
  let c1_i32_184 : BitVec 32 := 1#32
  let v276 : Index := Scalar.indexCast c1_i32_184
  let c0_i32_183 : BitVec 32 := 0#32
  let c0_i32_145 : BitVec 32 := 0#32
  let c1_i32_147 : BitVec 32 := 1#32
  let arg17 : BitVec 32 := Scf.iv c0_i32_145 c1_i32_147 k0_t3
  let c16_i32_182 : BitVec 32 := 16#32
  let v274 : BitVec 32 := Scalar.muli arg17 c16_i32_182
  let v275 : BitVec 32 := Scalar.addi c0_i32_183 v274
  let v277 : Index := Scalar.indexCast v275
  ![1, v277.toNat]
def k0_off15 (k0_t3 : Fin k0_t3_loop.trips) : Fin 3 → Nat :=
  let c1_i32_187 : BitVec 32 := 1#32
  let v297 : Index := Scalar.indexCast c1_i32_187
  let c0_i32_188 : BitVec 32 := 0#32
  let v298 : Index := Scalar.indexCast c0_i32_188
  let c0_i32_183 : BitVec 32 := 0#32
  let c0_i32_145 : BitVec 32 := 0#32
  let c1_i32_147 : BitVec 32 := 1#32
  let arg17 : BitVec 32 := Scf.iv c0_i32_145 c1_i32_147 k0_t3
  let c16_i32_182 : BitVec 32 := 16#32
  let v274 : BitVec 32 := Scalar.muli arg17 c16_i32_182
  let v275 : BitVec 32 := Scalar.addi c0_i32_183 v274
  let v299 : Index := Scalar.indexCast v275
  ![1, 0, v299.toNat]
def k0_off16 (k0_t3 : Fin k0_t3_loop.trips) : Fin 3 → Nat :=
  let c1_i32_191 : BitVec 32 := 1#32
  let v310 : Index := Scalar.indexCast c1_i32_191
  let c1_i32_192 : BitVec 32 := 1#32
  let v311 : Index := Scalar.indexCast c1_i32_192
  let c0_i32_183 : BitVec 32 := 0#32
  let c0_i32_145 : BitVec 32 := 0#32
  let c1_i32_147 : BitVec 32 := 1#32
  let arg17 : BitVec 32 := Scf.iv c0_i32_145 c1_i32_147 k0_t3
  let c16_i32_182 : BitVec 32 := 16#32
  let v274 : BitVec 32 := Scalar.muli arg17 c16_i32_182
  let v275 : BitVec 32 := Scalar.addi c0_i32_183 v274
  let v312 : Index := Scalar.indexCast v275
  ![1, 1, v312.toNat]
def k0_off17 (k0_t3 : Fin k0_t3_loop.trips) : Fin 3 → Nat :=
  let c1_i32_195 : BitVec 32 := 1#32
  let v323 : Index := Scalar.indexCast c1_i32_195
  let c2_i32_196 : BitVec 32 := 2#32
  let v324 : Index := Scalar.indexCast c2_i32_196
  let c0_i32_183 : BitVec 32 := 0#32
  let c0_i32_145 : BitVec 32 := 0#32
  let c1_i32_147 : BitVec 32 := 1#32
  let arg17 : BitVec 32 := Scf.iv c0_i32_145 c1_i32_147 k0_t3
  let c16_i32_182 : BitVec 32 := 16#32
  let v274 : BitVec 32 := Scalar.muli arg17 c16_i32_182
  let v275 : BitVec 32 := Scalar.addi c0_i32_183 v274
  let v325 : Index := Scalar.indexCast v275
  ![1, 2, v325.toNat]

def k0_chk2 (v285 : IVec S16 32) : Prop :=
  (∀ a x, ((![v285] : Fin 1 → IVec S16 32) a x).toNat < S256.size a) ∧
  (∀ a x, ((![v285] : Fin 1 → IVec S16 32) a x).toNat < S256.size a) ∧
  (∀ a x, ((![v285] : Fin 1 → IVec S16 32) a x).toNat < S256.size a) ∧
  (∀ a x, ((![v285] : Fin 1 → IVec S16 32) a x).toNat < S256.size a)
theorem k0_idx5_inb : ∀ (v285 : IVec S16 32) (k0_hw2 : k0_chk2 v285), ∀ a x, ((![v285] : Fin 1 → IVec S16 32) a x).toNat < S256.size a := fun v285 k0_hw2 => k0_hw2.1
theorem k0_idx6_inb : ∀ (v285 : IVec S16 32) (k0_hw2 : k0_chk2 v285), ∀ a x, ((![v285] : Fin 1 → IVec S16 32) a x).toNat < S256.size a := fun v285 k0_hw2 => k0_hw2.2.1
theorem k0_idx7_inb : ∀ (v285 : IVec S16 32) (k0_hw2 : k0_chk2 v285), ∀ a x, ((![v285] : Fin 1 → IVec S16 32) a x).toNat < S256.size a := fun v285 k0_hw2 => k0_hw2.2.2.1
theorem k0_idx8_inb : ∀ (v285 : IVec S16 32) (k0_hw2 : k0_chk2 v285), ∀ a x, ((![v285] : Fin 1 → IVec S16 32) a x).toNat < S256.size a := fun v285 k0_hw2 => k0_hw2.2.2.2
def k0_off18 (k0_t3 : Fin k0_t3_loop.trips) : Fin 3 → Nat :=
  let c1_i32_199 : BitVec 32 := 1#32
  let v336 : Index := Scalar.indexCast c1_i32_199
  let c3_i32_200 : BitVec 32 := 3#32
  let v337 : Index := Scalar.indexCast c3_i32_200
  let c0_i32_183 : BitVec 32 := 0#32
  let c0_i32_145 : BitVec 32 := 0#32
  let c1_i32_147 : BitVec 32 := 1#32
  let arg17 : BitVec 32 := Scf.iv c0_i32_145 c1_i32_147 k0_t3
  let c16_i32_182 : BitVec 32 := 16#32
  let v274 : BitVec 32 := Scalar.muli arg17 c16_i32_182
  let v275 : BitVec 32 := Scalar.addi c0_i32_183 v274
  let v338 : Index := Scalar.indexCast v275
  ![1, 3, v338.toNat]
def k0_off19 (i : grid0.Coords) (c0_i32_29 : BitVec 32) (c245760_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32_28 : BitVec 32 := 4#32
  let v54 : BitVec 32 := Scalar.muli v18 c4_i32_28
  let v55 : BitVec 32 := Scalar.addi v54 c0_i32_29
  let c2097152_i32_30 : BitVec 32 := 2097152#32
  let v56 : BitVec 32 := Scalar.muli v55 c2097152_i32_30
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32_10 : BitVec 32 := 262144#32
  let v32 : BitVec 32 := Scalar.muli v28 c262144_i32_10
  let v57 : BitVec 32 := Scalar.addi v56 v32
  let v58 : BitVec 32 := Scalar.addi v57 c245760_i32
  ![v58.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1x128x128x128 : Shape := ⟨5, ![4, 1, 128, 128, 128]⟩
abbrev S4x4x256 : Shape := ⟨3, ![4, 4, 256]⟩
abbrev S16x256 : Shape := ⟨2, ![16, 256]⟩
abbrev S_ : Shape := ⟨0, ![]⟩
abbrev S255 : Shape := ⟨1, ![255]⟩
abbrev S1 : Shape := ⟨1, ![1]⟩
abbrev S256 : Shape := ⟨1, ![256]⟩
abbrev S4x4x128x128x128 : Shape := ⟨5, ![4, 4, 128, 128, 128]⟩
abbrev S16x2097152 : Shape := ⟨2, ![16, 2097152]⟩
abbrev S16x1x256 : Shape := ⟨3, ![16, 1, 256]⟩
abbrev S16x2097152x1 : Shape := ⟨3, ![16, 2097152, 1]⟩
abbrev S16x2097152x256 : Shape := ⟨3, ![16, 2097152, 256]⟩
abbrev S1x1x1 : Shape := ⟨3, ![1, 1, 1]⟩

abbrev nBuf : Space → Nat
  | .hbm => 153
  | .vmem => 0
  | .smem => 0
  | _ => 0

abbrev hbmTy0_0 (i : Nat) : BufTy := match i % 128 with
  | 0 => ⟨S4x1x128x128x128, .f32⟩
  | 1 => ⟨S4x4x256, .i32⟩
  | 2 => ⟨S16x256, .i32⟩
  | 3 => ⟨S_, .i32⟩
  | 4 => ⟨S16x256, .i32⟩
  | 5 => ⟨S16x256, .i32⟩
  | 6 => ⟨S16x256, .f32⟩
  | 7 => ⟨S_, .i32⟩
  | 8 => ⟨S16x256, .i32⟩
  | 9 => ⟨S16x256, .i32⟩
  | 10 => ⟨S16x256, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S255, .f32⟩
  | 19 => ⟨S_, .f32⟩
  | 20 => ⟨S255, .f32⟩
  | 21 => ⟨S255, .f32⟩
  | 22 => ⟨S1, .f32⟩
  | 23 => ⟨S_, .f32⟩
  | 24 => ⟨S255, .f32⟩
  | 25 => ⟨S255, .f32⟩
  | 26 => ⟨S255, .f32⟩
  | 27 => ⟨S255, .f32⟩
  | 28 => ⟨S1, .f32⟩
  | 29 => ⟨S255, .f32⟩
  | 30 => ⟨S255, .f32⟩
  | 31 => ⟨S255, .f32⟩
  | 32 => ⟨S1, .f32⟩
  | 33 => ⟨S256, .f32⟩
  | 34 => ⟨S16x256, .f32⟩
  | 35 => ⟨S4x4x128x128x128, .f32⟩
  | 36 => ⟨S16x2097152, .f32⟩
  | 37 => ⟨S16x1x256, .f32⟩
  | 38 => ⟨S16x2097152x1, .f32⟩
  | 39 => ⟨S16x2097152x256, .f32⟩
  | 40 => ⟨S16x2097152x256, .f32⟩
  | 41 => ⟨S16x2097152x256, .i1⟩
  | 42 => ⟨S16x2097152x256, .i32⟩
  | 43 => ⟨S_, .i32⟩
  | 44 => ⟨S16x2097152, .i32⟩
  | 45 => ⟨S_, .i32⟩
  | 46 => ⟨S16x2097152, .i32⟩
  | 47 => ⟨S16x2097152, .i32⟩
  | 48 => ⟨S_, .i32⟩
  | 49 => ⟨S_, .i32⟩
  | 50 => ⟨S_, .i32⟩
  | 51 => ⟨S16x2097152, .i32⟩
  | 52 => ⟨S16x2097152, .i32⟩
  | 53 => ⟨S_, .i32⟩
  | 54 => ⟨S16x2097152, .i32⟩
  | 55 => ⟨S16x2097152, .i32⟩
  | 56 => ⟨S_, .i32⟩
  | 57 => ⟨S16x2097152, .i32⟩
  | 58 => ⟨S16x2097152, .i1⟩
  | 59 => ⟨S_, .i32⟩
  | 60 => ⟨S16x2097152, .i32⟩
  | 61 => ⟨S16x2097152, .i32⟩
  | 62 => ⟨S16x2097152, .i32⟩
  | 63 => ⟨S16x2097152x1, .i32⟩
  | 64 => ⟨S1, .i32⟩
  | 65 => ⟨S_, .i32⟩
  | 66 => ⟨S16x2097152x1, .i32⟩
  | 67 => ⟨S16x2097152x1, .i1⟩
  | 68 => ⟨S1x1x1, .i32⟩
  | 69 => ⟨S16x2097152x1, .i32⟩
  | 70 => ⟨S16x2097152x1, .i1⟩
  | 71 => ⟨S16x2097152x1, .i1⟩
  | 72 => ⟨S_, .i1⟩
  | 73 => ⟨S16x2097152, .i1⟩
  | 74 => ⟨S16x2097152, .f32⟩
  | 75 => ⟨S_, .f32⟩
  | 76 => ⟨S16x2097152, .f32⟩
  | 77 => ⟨S16x2097152, .f32⟩
  | 78 => ⟨S_, .i32⟩
  | 79 => ⟨S16x2097152, .i32⟩
  | 80 => ⟨S16x2097152, .i32⟩
  | 81 => ⟨S_, .i32⟩
  | 82 => ⟨S16x2097152, .i32⟩
  | 83 => ⟨S16x2097152, .i1⟩
  | 84 => ⟨S_, .i32⟩
  | 85 => ⟨S16x2097152, .i32⟩
  | 86 => ⟨S16x2097152, .i32⟩
  | 87 => ⟨S16x2097152, .i32⟩
  | 88 => ⟨S16x2097152x1, .i32⟩
  | 89 => ⟨S1, .i32⟩
  | 90 => ⟨S_, .i32⟩
  | 91 => ⟨S16x2097152x1, .i32⟩
  | 92 => ⟨S16x2097152x1, .i1⟩
  | 93 => ⟨S1x1x1, .i32⟩
  | 94 => ⟨S16x2097152x1, .i32⟩
  | 95 => ⟨S16x2097152x1, .i1⟩
  | 96 => ⟨S16x2097152x1, .i1⟩
  | 97 => ⟨S_, .i1⟩
  | 98 => ⟨S16x2097152, .i1⟩
  | 99 => ⟨S16x2097152, .f32⟩
  | 100 => ⟨S_, .f32⟩
  | 101 => ⟨S16x2097152, .f32⟩
  | 102 => ⟨S16x2097152, .f32⟩
  | 103 => ⟨S_, .i32⟩
  | 104 => ⟨S16x2097152, .i32⟩
  | 105 => ⟨S16x2097152, .i1⟩
  | 106 => ⟨S_, .i32⟩
  | 107 => ⟨S16x2097152, .i32⟩
  | 108 => ⟨S16x2097152, .i32⟩
  | 109 => ⟨S16x2097152, .i32⟩
  | 110 => ⟨S16x2097152x1, .i32⟩
  | 111 => ⟨S1, .i32⟩
  | 112 => ⟨S_, .i32⟩
  | 113 => ⟨S16x2097152x1, .i32⟩
  | 114 => ⟨S16x2097152x1, .i1⟩
  | 115 => ⟨S1x1x1, .i32⟩
  | 116 => ⟨S16x2097152x1, .i32⟩
  | 117 => ⟨S16x2097152x1, .i1⟩
  | 118 => ⟨S16x2097152x1, .i1⟩
  | 119 => ⟨S_, .i1⟩
  | 120 => ⟨S16x2097152, .i1⟩
  | 121 => ⟨S16x2097152, .f32⟩
  | 122 => ⟨S_, .f32⟩
  | 123 => ⟨S16x2097152, .f32⟩
  | 124 => ⟨S16x2097152, .f32⟩
  | 125 => ⟨S16x2097152, .f32⟩
  | 126 => ⟨S16x2097152, .f32⟩
  | 127 => ⟨S_, .i32⟩
  | _ => ⟨S4x1x128x128x128, .f32⟩

abbrev hbmTy0_1 (i : Nat) : BufTy := match i % 128 with
  | 0 => ⟨S16x2097152, .i32⟩
  | 1 => ⟨S16x2097152, .i1⟩
  | 2 => ⟨S_, .i32⟩
  | 3 => ⟨S16x2097152, .i32⟩
  | 4 => ⟨S16x2097152, .i32⟩
  | 5 => ⟨S16x2097152, .i32⟩
  | 6 => ⟨S16x2097152x1, .i32⟩
  | 7 => ⟨S1, .i32⟩
  | 8 => ⟨S_, .i32⟩
  | 9 => ⟨S16x2097152x1, .i32⟩
  | 10 => ⟨S16x2097152x1, .i1⟩
  | 11 => ⟨S1x1x1, .i32⟩
  | 12 => ⟨S16x2097152x1, .i32⟩
  | 13 => ⟨S16x2097152x1, .i1⟩
  | 14 => ⟨S16x2097152x1, .i1⟩
  | 15 => ⟨S_, .i1⟩
  | 16 => ⟨S16x2097152, .i1⟩
  | 17 => ⟨S16x2097152, .f32⟩
  | 18 => ⟨S_, .f32⟩
  | 19 => ⟨S16x2097152, .f32⟩
  | 20 => ⟨S16x2097152, .f32⟩
  | 21 => ⟨S16x2097152, .f32⟩
  | 22 => ⟨S16x2097152, .f32⟩
  | 23 => ⟨S16x2097152, .f32⟩
  | 24 => ⟨S4x4x128x128x128, .f32⟩
  | _ => ⟨S4x1x128x128x128, .f32⟩

abbrev hbmTy (i : Nat) : BufTy := match i / 128 with
  | 0 => hbmTy0_0 i
  | 1 => hbmTy0_1 i
  | _ => ⟨S4x1x128x128x128, .f32⟩

abbrev bufTy : (tb : Table) → Fin (tcTables nBuf tb) → BufTy
  | .hbm, ⟨i, _⟩ => hbmTy i
  | _, _ => ⟨S4x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v20 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v21 : Ref sig .tc := ⟨.hbm, 77, rfl⟩
abbrev main_c_6 : Ref sig .tc := ⟨.hbm, 78, rfl⟩
abbrev main_v22 : Ref sig .tc := ⟨.hbm, 79, rfl⟩
abbrev main_v23 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v24 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_call5_c : Ref sig .tc := ⟨.hbm, 127, rfl⟩
abbrev main_call5_v0 : Ref sig .tc := ⟨.hbm, 128, rfl⟩
abbrev main_call5_v1 : Ref sig .tc := ⟨.hbm, 129, rfl⟩
abbrev main_call5_c_0 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_c_1 : Ref sig .tc := ⟨.hbm, 135, rfl⟩
abbrev main_call5_c_2 : Ref sig .tc := ⟨.hbm, 136, rfl⟩
abbrev main_call5_v6 : Ref sig .tc := ⟨.hbm, 137, rfl⟩
abbrev main_call5_v7 : Ref sig .tc := ⟨.hbm, 138, rfl⟩
abbrev main_call5_v8 : Ref sig .tc := ⟨.hbm, 139, rfl⟩
abbrev main_call5_v9 : Ref sig .tc := ⟨.hbm, 140, rfl⟩
abbrev main_call5_v10 : Ref sig .tc := ⟨.hbm, 141, rfl⟩
abbrev main_call5_v11 : Ref sig .tc := ⟨.hbm, 142, rfl⟩
abbrev main_call5_c_3 : Ref sig .tc := ⟨.hbm, 143, rfl⟩
abbrev main_call5_v12 : Ref sig .tc := ⟨.hbm, 144, rfl⟩
abbrev main_call5_v13 : Ref sig .tc := ⟨.hbm, 145, rfl⟩
abbrev main_call5_cst : Ref sig .tc := ⟨.hbm, 146, rfl⟩
abbrev main_call5_v14 : Ref sig .tc := ⟨.hbm, 147, rfl⟩
abbrev main_v28 : Ref sig .tc := ⟨.hbm, 148, rfl⟩
abbrev main_v29 : Ref sig .tc := ⟨.hbm, 149, rfl⟩
abbrev main_v30 : Ref sig .tc := ⟨.hbm, 150, rfl⟩
abbrev main_v31 : Ref sig .tc := ⟨.hbm, 151, rfl⟩
abbrev main_v32 : Ref sig .tc := ⟨.hbm, 152, rfl⟩

abbrev nD : Nat := 1
abbrev τ : Topo := Topo.v7x

variable {F : FTy → Type} [FloatOps F]
-- ==== Segments.lean ====
abbrev S4x4x256 : Shape := ⟨3, ![4, 4, 256]⟩
abbrev S16x256 : Shape := ⟨2, ![16, 256]⟩
abbrev S16x255 : Shape := ⟨2, ![16, 255]⟩
abbrev S16x1 : Shape := ⟨2, ![16, 1]⟩
abbrev S_ : Shape := ⟨0, ![]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4x256, .f32⟩
  | .hbm, ⟨1, _⟩ => ⟨S16x256, .f32⟩
  | .hbm, ⟨2, _⟩ => ⟨S16x255, .f32⟩
  | .hbm, ⟨3, _⟩ => ⟨S16x1, .f32⟩
  | .hbm, ⟨4, _⟩ => ⟨S16x256, .f32⟩
  | .hbm, ⟨5, _⟩ => ⟨S16x256, .f32⟩
  | .hbm, ⟨6, _⟩ => ⟨S16x256, .i32⟩
  | .hbm, ⟨7, _⟩ => ⟨S_, .i32⟩
  | .hbm, ⟨8, _⟩ => ⟨S16x256, .i32⟩
  | .hbm, ⟨9, _⟩ => ⟨S16x256, .i32⟩
  | .hbm, ⟨10, _⟩ => ⟨S16x256, .f32⟩
  | .hbm, ⟨11, _⟩ => ⟨S16x256, .f32⟩
  | .hbm, ⟨12, _⟩ => ⟨S16x256, .i32⟩
  | .hbm, ⟨13, _⟩ => ⟨S_, .i32⟩
  | .hbm, ⟨14, _⟩ => ⟨S16x256, .i32⟩
  | .hbm, ⟨15, _⟩ => ⟨S16x256, .i32⟩
  | .hbm, ⟨16, _⟩ => ⟨S_, .i32⟩
  | .hbm, ⟨17, _⟩ => ⟨S16x256, .i32⟩
  | .hbm, ⟨18, _⟩ => ⟨S16x256, .i32⟩
  | .hbm, ⟨19, _⟩ => ⟨S16x256, .i32⟩
  | .hbm, ⟨20, _⟩ => ⟨S16x256, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .f32⟩
  | .hbm, ⟨30, _⟩ => ⟨S4x4x256, .f32⟩
  | .hbm, ⟨31, _⟩ => ⟨S4x4x256, .f32⟩
  | _, _ => ⟨S4x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [BitOps F]
-- ==== SegmentsReference.lean ====
abbrev S4x4x256 : Shape := ⟨3, ![4, 4, 256]⟩
abbrev S4x4x255 : Shape := ⟨3, ![4, 4, 255]⟩
abbrev S4x4x1 : Shape := ⟨3, ![4, 4, 1]⟩

abbrev nBuf : Space → Nat
  | .hbm => 7
  | .vmem => 0
  | .smem => 0
  | _ => 0

abbrev bufTy : (tb : Table) → Fin (tcTables nBuf tb) → BufTy
  | .hbm, ⟨0, _⟩ => ⟨S4x4x256, .f32⟩
  | .hbm, ⟨1, _⟩ => ⟨S4x4x255, .f32⟩
  | .hbm, ⟨2, _⟩ => ⟨S4x4x1, .f32⟩
  | .hbm, ⟨3, _⟩ => ⟨S4x4x256, .f32⟩
  | .hbm, ⟨4, _⟩ => ⟨S4x4x256, .f32⟩
  | .hbm, ⟨5, _⟩ => ⟨S4x4x256, .f32⟩
  | .hbm, ⟨6, _⟩ => ⟨S4x4x256, .f32⟩
  | _, _ => ⟨S4x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [BitOps F]
-- ==== Proof.Setup.lean ====
/-
  What every part of the proof about the SparseCore call names: the program as the launch theorem sees it, the
  resource algebra, the kernel's buffers and the pieces of them its copies move, and the offsets of those pieces in
  closed form. There are 32 tiles; tile `(core, subcore)` has the number `w = 2·subcore + core` and works on the
  262144 words of the flat image from `262144·w` on, in 32 chunks of 8192; image `w / 8` has four channels, and the
  tile writes each of them over the same stretch of that image.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Memref
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are apart from the kernel's, and its call is the one the program makes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the launch's own rounds, and the counters of the copies -/

abbrev UH : Type := URounds (GSem nD τ sig) ℕ
abbrev UU : Type := UH × Counters
local notation "𝕄" => MT nD τ sig (SparseCore.Cfg.HIx 1) (Elt F) ℕ UU ℕ
abbrev EH : Emb UH (MT nD τ sig (SparseCore.Cfg.HIx 1) (Elt F) ℕ UU ℕ) := embL
abbrev EC : UEmb Counters (MT nD τ sig (SparseCore.Cfg.HIx 1) (Elt F) ℕ UU ℕ) := countersEmb

/-! ## The kernel's buffers -/

abbrev xM : Memref sig .scVector .hbm S8388608 .f32 := Memref.whole main_v0_scv
abbrev wM : Memref sig .scVector .hbm S4096 .i32 := Memref.whole main_v1_scv
abbrev oM : Memref sig .scVector .hbm S33554432 .f32 := Memref.whole main_v2_scv
abbrev t0 : Memref sig .scVector .vmem S256 .i32 := Memref.whole cc0_scratch0
abbrev t1 : Memref sig .scVector .vmem S256 .i32 := Memref.whole cc0_scratch1
abbrev t2 : Memref sig .scVector .vmem S256 .i32 := Memref.whole cc0_scratch2
abbrev t3 : Memref sig .scVector .vmem S256 .i32 := Memref.whole cc0_scratch3
abbrev xB : Memref sig .scVector .vmem S2x8192 .f32 := Memref.whole cc0_scratch4
abbrev oB : Memref sig .scVector .vmem S2x4x8192 .f32 := Memref.whole cc0_scratch5

/-- The SparseCore and the subcore of grid point `L`, and the thread that runs it on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- 8192 words of the flat image from `o`, 8192 words of the result from `o`, and 256 of the packed words. -/
abbrev xS (o : Fin 1 → ℕ) (h : ∀ a, o a + S8192.size a ≤ S8388608.size a) : Memref sig .scVector .hbm S8192 .f32 :=
  xM.slice (Rect.unit (s := S8388608) o S8192.size h) (fun _ => rfl)
abbrev oS (o : Fin 1 → ℕ) (h : ∀ a, o a + S8192.size a ≤ S33554432.size a) : Memref sig .scVector .hbm S8192 .f32 :=
  oM.slice (Rect.unit (s := S33554432) o S8192.size h) (fun _ => rfl)
abbrev wS (o : Fin 1 → ℕ) (h : ∀ a, o a + S256.size a ≤ S4096.size a) : Memref sig .scVector .hbm S256 .i32 :=
  wM.slice (Rect.unit (s := S4096) o S256.size h) (fun _ => rfl)

/-- Row `b` of the staged input, and row `(b, c)` of the staged result. -/
abbrev xR (b : ℕ) (h : ∀ a, (![b, 0] : Fin 2 → ℕ) a + S1x8192.size a ≤ S2x8192.size a) : Memref sig .scVector .vmem S8192 .f32 :=
  (xB.slice (Rect.unit (s := S2x8192) ![b, 0] S1x8192.size h) (fun _ => rfl)).squeeze S8192 squeezes_S1x8192_S8192
abbrev oR (b c : ℕ) (h : ∀ a, (![b, c, 0] : Fin 3 → ℕ) a + S1x1x8192.size a ≤ S2x4x8192.size a) : Memref sig .scVector .vmem S8192 .f32 :=
  (oB.slice (Rect.unit (s := S2x4x8192) ![b, c, 0] S1x1x8192.size h) (fun _ => rfl)).squeeze S8192 squeezes_S1x1x8192_S8192

/-! ## Where the pieces start -/

/-- The tile's number; where its chunk `j` of the image starts; and where channel `c`'s chunk `j` of its result does. -/
def wid (L : grid0.Coords) : ℕ := (L 1).val * 2 + (L 0).val
def xo (L : grid0.Coords) (j : ℕ) : ℕ := wid L * 262144 + j * 8192
def oo (L : grid0.Coords) (c j : ℕ) : ℕ := (wid L / 8 * 4 + c) * 2097152 + wid L % 8 * 262144 + j * 8192

theorem wid_lt (L : grid0.Coords) : wid L < 32 := by
  have h0 : (L 0).val < 2 := (L 0).isLt
  have h1 : (L 1).val < 16 := (L 1).isLt
  unfold wid; omega

theorem off1_eq : ∀ (L : grid0.Coords) (r : Fin 4), k0_off1 L (BitVec.ofNat 32 r.val) = ![(wid L / 8 * 4 + r.val) * 256] := by decide +kernel
theorem off2_eq : ∀ (L : grid0.Coords), k0_off2 L = ![xo L 0] := by decide +kernel
theorem off3_eq : ∀ (L : grid0.Coords) (t : Fin k0_t1_loop.trips), k0_off3 L t = ![xo L (2 * t.val + 1)] := by decide +kernel
theorem off4_eq : ∀ (L : grid0.Coords) (t : Fin k0_t1_loop.trips) (b : Fin 2),
    k0_off4 L t (BitVec.ofNat 32 b.val) = ![xo L (2 * t.val + b.val)] := by decide +kernel
theorem off5_eq : ∀ (L : grid0.Coords) (t : Fin k0_t1_loop.trips) (_ : k0_cond2 t = 1#1) (c : Fin 4),
    k0_off5 L t (BitVec.ofNat 32 c.val) = ![oo L c.val (2 * t.val - 2)] := by decide +kernel
theorem off11_eq : ∀ (L : grid0.Coords) (t : Fin k0_t1_loop.trips) (c : Fin 4) (b : Fin 2),
    k0_off11 L t (BitVec.ofNat 32 c.val) (BitVec.ofNat 32 b.val) = ![oo L c.val (2 * t.val + b.val)] := by decide +kernel
theorem off12_eq : ∀ (L : grid0.Coords) (t : Fin k0_t1_loop.trips) (_ : k0_cond3 t = 1#1), k0_off12 L t = ![xo L (2 * t.val + 2)] := by decide +kernel
theorem off13_eq : ∀ (L : grid0.Coords) (t : Fin k0_t1_loop.trips) (_ : k0_cond4 t = 1#1) (c : Fin 4),
    k0_off13 L t (BitVec.ofNat 32 c.val) = ![oo L c.val (2 * t.val - 1)] := by decide +kernel
theorem off19_eq : ∀ (L : grid0.Coords) (c : Fin 4) (b : Fin 2),
    k0_off19 L (BitVec.ofNat 32 c.val) (BitVec.ofNat 32 (245760 + 8192 * b.val)) = ![oo L c.val (30 + b.val)] := by decide +kernel
theorem cond1_all : ∀ t : Fin k0_t1_loop.trips, k0_cond1 t = 1#1 := by decide +kernel
theorem cond2_iff : ∀ t : Fin k0_t1_loop.trips, k0_cond2 t = 1#1 ↔ 1 ≤ t.val := by decide +kernel
theorem cond3_iff : ∀ t : Fin k0_t1_loop.trips, k0_cond3 t = 1#1 ↔ t.val < 15 := by decide +kernel
theorem cond4_iff : ∀ t : Fin k0_t1_loop.trips, k0_cond4 t = 1#1 ↔ 1 ≤ t.val := by decide +kernel

end Cert.Proof.Sc
-- ==== Proof.Value.lean ====
/-
  What the kernel writes, one element at a time. From an element `x` of the image and a table of 256 packed words
  (a bf16 in the low half of each word, another in its high half): scale `x` by 255, take the whole part, kept
  between 0 and 254, as the index of the word, and add to the word's low half its high half times what is left of
  the scaled element.
-/
module

public import proofs.«01_k».proof.Proof.Setup
public import Idealize.ShloMosaic.Lib.ValueLayout

@[expose] public section

noncomputable section

namespace Cert.Proof.Sc

open Cert.KernelIdeal Cert.KernelIdeal.Gen
open Idealize.ShloMosaic Idealize.ShloMosaic.ValueIdx

variable {F : FTy → Type} [FloatOps F]

/-- The element times 255. -/
def scaled (x : F .f32) : F .f32 := FloatOps.mulf x (Scalar.ofBits .f32 0x437F0000#32)
/-- Which of the 255 segments the element is in. -/
def cell (x : F .f32) : BitVec 32 := IntOp.minsi 254#32 (IntOp.maxsi 0#32 (FloatOps.fptosi 32 (scaled x)))
/-- How far into the segment it is, in segments. -/
def frac (x : F .f32) : F .f32 := FloatOps.subf (scaled x) (FloatOps.sitofp .f32 (cell x))
/-- The word's low half, plus its high half times `frac`. -/
def lin (x : F .f32) (w : BitVec 32) : F .f32 :=
  FloatOps.addf (FloatOps.ofBits .f32 (IntOp.shli .vector w 16#32))
    (FloatOps.mulf (FloatOps.ofBits .f32 (IntOp.andi w 4294901760#32)) (frac x))

/-- Clamping a word between 0 and 254 leaves it below 255. -/
theorem clamp_lt (v : BitVec 32) : (IntOp.minsi 254#32 (IntOp.maxsi 0#32 v)).toNat < 255 := by
  unfold IntOp.minsi IntOp.maxsi
  split <;> split <;> rename_i h1 h2 <;> simp only [BitVec.slt, decide_eq_true_eq] at * <;>
    first
    | decide
    | (simp only [BitVec.toInt_eq_toNat_cond, BitVec.toNat_ofNat] at h1 h2; split_ifs at h1 h2 <;> omega)

theorem cell_lt (x : F .f32) : (cell x).toNat < 255 := clamp_lt _

/-- The segment as an index of the table. -/
def cellIx (x : F .f32) : S256.Idx := ix1 ⟨(cell x).toNat, (cell_lt x).trans (by decide)⟩

/-- A row of 8192 elements `X` through the table `W`. -/
def rowVal (X : S8192.Idx → F .f32) (W : S256.Idx → BitVec 32) (j : S8192.Idx) : F .f32 := lin (X j) (W (cellIx (X j)))

/-! ## The vector operations of one trip, lane by lane -/

/-- Where lane `l` of sixteen elements is in a block of one row. -/
def laneIx (l : S16.Idx) : S1x16.Idx := ix2 (0 : Fin 1) ⟨(l 0).val, (l 0).isLt⟩

/-- Lane `l` of the sixteen elements loaded as one row. -/
theorem sixteen_apply (ld : Vec F S1x16 .f32) (l : S16.Idx) : shapeCast S16 ld shapeCasts_S1x16_S16 l = ld (laneIx l) :=
  shapeCast_apply ld shapeCasts_S1x16_S16 l _ (by
    rw [Shape.rowMajor_val_two, Shape.rowMajor_val_one]
    show 0 * 16 + (l 0).val = (l 0).val
    omega)

/-- and back: sixteen lanes stored as a block of one row of one slab. -/
theorem block_apply (v : FVec F S16 .f32) (y : S1x1x16.Idx) : shapeCast S1x1x16 v shapeCasts_S16_S1x1x16 y = v (ix1 ⟨(y 2).val, (y 2).isLt⟩) :=
  shapeCast_apply v shapeCasts_S16_S1x1x16 y _ (by
    have h0 : (y 0).val < 1 := (y 0).isLt
    have h1 : (y 1).val < 1 := (y 1).isLt
    rw [Shape.rowMajor_val_three, Shape.rowMajor_val_one]
    show (y 2).val = ((y 0).val * 1 + (y 1).val) * 16 + (y 2).val
    omega)

theorem pay2_apply (ld : Vec F S1x16 .f32) (l : S16.Idx) : k0_pay2 ld l = cell (ld (laneIx l)) := by
  rw [← sixteen_apply ld l]; rfl
theorem pay3_apply (ld : Vec F S1x16 .f32) (l : S16.Idx) : k0_pay3 ld (k0_pay2 ld) l = frac (ld (laneIx l)) := by
  rw [← sixteen_apply ld l]; rfl
theorem pay4_apply (ld : Vec F S1x16 .f32) (w : Vec F S16 .i32) (l : S16.Idx) :
    k0_pay4 ld (k0_pay2 ld) w l = lin (ld (laneIx l)) (w l) := by
  rw [← sixteen_apply ld l]; rfl
theorem pay5_apply (ld : Vec F S1x16 .f32) (w : Vec F S16 .i32) (l : S16.Idx) :
    k0_pay5 ld (k0_pay2 ld) w l = lin (ld (laneIx l)) (w l) := by
  rw [← sixteen_apply ld l]; rfl
theorem pay11_apply (ld : Vec F S1x16 .f32) (w : Vec F S16 .i32) (l : S16.Idx) :
    k0_pay11 (k0_pay3 ld (k0_pay2 ld)) w l = lin (ld (laneIx l)) (w l) := by
  rw [← sixteen_apply ld l]; rfl
theorem pay12_apply (ld : Vec F S1x16 .f32) (w : Vec F S16 .i32) (l : S16.Idx) :
    k0_pay12 (k0_pay3 ld (k0_pay2 ld)) w l = lin (ld (laneIx l)) (w l) := by
  rw [← sixteen_apply ld l]; rfl

/-- The indices are below 256, so the gathers read inside the tables. -/
theorem chk_pay2 (ld : Vec F S1x16 .f32) : k0_chk1 (k0_pay2 ld) := by
  have h : ∀ a x, ((![k0_pay2 ld] : Fin 1 → IVec S16 32) a x).toNat < S256.size a := by
    intro a x
    obtain rfl : a = 0 := Subsingleton.elim _ _
    show (k0_pay2 ld x).toNat < 256
    rw [pay2_apply]
    exact (cell_lt _).trans (by decide)
  exact ⟨h, h, h, h⟩

/-- What a gather at those indices reads: the table at the lane's segment. -/
theorem gather_apply (ld : Vec F S1x16 .f32) (W : Vec F S256 .i32)
    (h : ∀ a x, ((![k0_pay2 ld] : Fin 1 → IVec S16 32) a x).toNat < S256.size a) (l : S16.Idx) :
    loadIdx W ![k0_pay2 ld] h l = W (cellIx (ld (laneIx l))) := by
  unfold loadIdx
  refine congrArg W (funext fun a => Fin.ext ?_)
  obtain rfl : a = 0 := Subsingleton.elim _ _
  show (k0_pay2 ld l).toNat = (cell (ld (laneIx l))).toNat
  rw [pay2_apply]

end Cert.Proof.Sc
-- ==== Proof.Geometry.lean ====
/-
  Where the rows of the two staging buffers are, element by element, and what a load of sixteen elements reads of a
  row and a store of sixteen writes in it.
-/
module

public import proofs.«01_k».proof.Proof.Value

@[expose] public section

noncomputable section

namespace Cert.Proof.Sc

open Cert.KernelIdeal Cert.KernelIdeal.Gen
open Idealize.ShloMosaic Idealize.ShloMosaic.ValueIdx

variable {F : FTy → Type} [FloatOps F]

section Emb
variable {b c : ℕ} (hx : ∀ a, (![b, 0] : Fin 2 → ℕ) a + S1x8192.size a ≤ S2x8192.size a)
  (ho : ∀ a, (![b, c, 0] : Fin 3 → ℕ) a + S1x1x8192.size a ≤ S2x4x8192.size a)

/-- Element `j` of row `b` of the staged input is element `(b, j)` of the buffer, -/
theorem xR_emb (j : S8192.Idx) (a : Fin 2) : ((xR b hx).view.emb j a).val = (![b, (j 0).val] : Fin 2 → ℕ) a := by
  have e : Shape.reshapeEquiv (s := S1x8192) (s' := S8192) (squeezes_S1x8192_S8192).numel_eq j
      = (ix2 (0 : Fin 1) ⟨(j 0).val, (j 0).isLt⟩ : S1x8192.Idx) :=
    Shape.reshapeEquiv_eq_of_rowMajor _ (by
      rw [Shape.rowMajor_val_two, Shape.rowMajor_val_one]
      show 0 * 8192 + (j 0).val = (j 0).val
      omega)
  show (![b, 0] : Fin 2 → ℕ) a + 1 * (Shape.reshapeEquiv (s := S1x8192) (s' := S8192) (squeezes_S1x8192_S8192).numel_eq j a).val = _
  rw [e]
  fin_cases a
  · show b + 1 * 0 = b; omega
  · show 0 + 1 * (j 0).val = (j 0).val; omega

/-- and element `j` of row `(b, c)` of the staged result is element `(b, c, j)`. -/
theorem oR_emb (j : S8192.Idx) (a : Fin 3) : ((oR b c ho).view.emb j a).val = (![b, c, (j 0).val] : Fin 3 → ℕ) a := by
  have e : Shape.reshapeEquiv (s := S1x1x8192) (s' := S8192) (squeezes_S1x1x8192_S8192).numel_eq j
      = (ix3 (0 : Fin 1) (0 : Fin 1) ⟨(j 0).val, (j 0).isLt⟩ : S1x1x8192.Idx) :=
    Shape.reshapeEquiv_eq_of_rowMajor _ (by
      rw [Shape.rowMajor_val_three, Shape.rowMajor_val_one]
      show (0 * 1 + 0) * 8192 + (j 0).val = (j 0).val
      omega)
  show (![b, c, 0] : Fin 3 → ℕ) a + 1 * (Shape.reshapeEquiv (s := S1x1x8192) (s' := S8192) (squeezes_S1x1x8192_S8192).numel_eq j a).val = _
  rw [e]
  fin_cases a
  · show b + 1 * 0 = b; omega
  · show c + 1 * 0 = c; omega
  · show 0 + 1 * (j 0).val = (j 0).val; omega

end Emb

/-! ## Sixteen elements of a row -/

/-- Element `16 k + l` of a row. -/
def at16 (k : ℕ) (hk : k < 512) (l : Fin 16) : S8192.Idx := ix1 ⟨16 * k + l.val, by omega⟩

section Sixteen
variable {b c k : ℕ} (hk : k < 512)
  (hx : ∀ a, (![b, 0] : Fin 2 → ℕ) a + S1x8192.size a ≤ S2x8192.size a)
  (ho : ∀ a, (![b, c, 0] : Fin 3 → ℕ) a + S1x1x8192.size a ≤ S2x4x8192.size a)
  (h2 : ∀ a, (![b, 16 * k] : Fin 2 → ℕ) a + S1x16.size a ≤ S2x8192.size a)
  (h3 : ∀ a, (![b, c, 16 * k] : Fin 3 → ℕ) a + S1x1x16.size a ≤ S2x4x8192.size a)

include hk

/-- Trip `k`'s load of the staged input reads elements of row `b` only, -/
theorem xload_subset : (xB.view).setOn (Rect.unit (s := S2x8192) ![b, 16 * k] S1x16.size h2).toLoadRect.set ⊆ (xR b hx).view.set := by
  intro i hi
  rw [View.setOn, Finset.mem_map] at hi
  obtain ⟨y, hy, rfl⟩ := hi
  simp only [LoadRect.set, Finset.mem_filter, Finset.mem_univ, true_and] at hy
  obtain ⟨z0, hz0, e0⟩ := hy 0
  obtain ⟨z1, hz1, e1⟩ := hy 1
  have hz0' : z0 < 1 := hz0
  have hz1' : z1 < 16 := hz1
  have e0' : (y 0).val = b + 1 * z0 := e0
  have e1' : (y 1).val = 16 * k + 1 * z1 := e1
  rw [View.set, Finset.mem_map]
  refine ⟨at16 k hk ⟨z1, hz1'⟩, Finset.mem_univ _, funext fun a => Fin.ext ?_⟩
  rw [xR_emb]
  show _ = (y a).val
  fin_cases a
  · show b = (y 0).val; omega
  · show 16 * k + z1 = (y 1).val; omega

/-- and lane `l` of what it reads is element `16 k + l`. -/
theorem xload_apply (f : S2x8192.Idx → Elt F .f32) (l : S16.Idx) :
    xB.view.readAt (Elt F) (Rect.unit (s := S2x8192) ![b, 16 * k] S1x16.size h2).toLoadRect f (laneIx l)
      = (xR b hx).view.read (Elt F) f (at16 k hk ⟨(l 0).val, (l 0).isLt⟩) := by
  rw [View.readAt_apply, View.read_apply]
  refine (cast_eq _ _).trans ((congrArg f (funext fun a => Fin.ext ?_)).trans (cast_eq _ _).symm)
  rw [xR_emb]
  show (![b, 16 * k] : Fin 2 → ℕ) a + 1 * (laneIx l a).val = _
  fin_cases a
  · show b + 1 * 0 = b; omega
  · show 16 * k + 1 * (l 0).val = 16 * k + (l 0).val; omega

/-- Trip `k`'s load and store of the staged result touch row `(b, c)` only: -/
theorem oload_subset : (oB.view).setOn (Rect.unit (s := S2x4x8192) ![b, c, 16 * k] S1x1x16.size h3).toLoadRect.set ⊆ (oR b c ho).view.set := by
  intro i hi
  rw [View.setOn, Finset.mem_map] at hi
  obtain ⟨y, hy, rfl⟩ := hi
  simp only [LoadRect.set, Finset.mem_filter, Finset.mem_univ, true_and] at hy
  obtain ⟨z0, hz0, e0⟩ := hy 0
  obtain ⟨z1, hz1, e1⟩ := hy 1
  obtain ⟨z2, hz2, e2⟩ := hy 2
  have hz0' : z0 < 1 := hz0
  have hz1' : z1 < 1 := hz1
  have hz2' : z2 < 16 := hz2
  have e0' : (y 0).val = b + 1 * z0 := e0
  have e1' : (y 1).val = c + 1 * z1 := e1
  have e2' : (y 2).val = 16 * k + 1 * z2 := e2
  rw [View.set, Finset.mem_map]
  refine ⟨at16 k hk ⟨z2, hz2'⟩, Finset.mem_univ _, funext fun a => Fin.ext ?_⟩
  rw [oR_emb]
  show _ = (y a).val
  fin_cases a
  · show b = (y 0).val; omega
  · show c = (y 1).val; omega
  · show 16 * k + z2 = (y 2).val; omega

/-- where the store's element `y` is in the row, -/
theorem oacc_emb (y : S1x1x16.Idx) :
    (oB.access (Rect.unit (s := S2x4x8192) ![b, c, 16 * k] S1x1x16.size h3)).emb y
      = (oR b c ho).view.emb (at16 k hk ⟨(y 2).val, (y 2).isLt⟩) := by
  have hz0 : (y 0).val < 1 := (y 0).isLt
  have hz1 : (y 1).val < 1 := (y 1).isLt
  refine funext fun a => Fin.ext ?_
  rw [oR_emb]
  show (![b, c, 16 * k] : Fin 3 → ℕ) a + 1 * (y a).val = _
  fin_cases a
  · show b + 1 * (y 0).val = b; omega
  · show c + 1 * (y 1).val = c; omega
  · show 16 * k + 1 * (y 2).val = 16 * k + (y 2).val; omega

theorem ostore_subset :
    (oB.access (Rect.unit (s := S2x4x8192) ![b, c, 16 * k] S1x1x16.size h3)).setOn Finset.univ ⊆ (oR b c ho).view.set := by
  intro i hi
  rw [View.setOn, Finset.mem_map] at hi
  obtain ⟨y, -, rfl⟩ := hi
  rw [oacc_emb hk ho h3 y]
  rw [View.set, Finset.mem_map]
  exact ⟨_, Finset.mem_univ _, rfl⟩

/-- and the row once sixteen more elements have been stored: where the first `16 k` of the row read as `v`, and
    the stored lanes are `v`'s next sixteen, the first `16 (k + 1)` do. -/
theorem ostore_read (v : S8192.Idx → Elt F .f32) (f : S2x4x8192.Idx → Elt F .f32) (w : FVec F S16 .f32)
    (hf : ∀ j : S8192.Idx, (j 0).val < 16 * k → (oR b c ho).view.read (Elt F) f j = v j)
    (hw : ∀ l : Fin 16, w (ix1 l) = v (at16 k hk l)) (j : S8192.Idx) (hj : (j 0).val < 16 * (k + 1)) :
    (oR b c ho).view.read (Elt F)
      ((oB.access (Rect.unit (s := S2x4x8192) ![b, c, 16 * k] S1x1x16.size h3)).write (Elt F) f (shapeCast S1x1x16 w shapeCasts_S16_S1x1x16) Finset.univ) j
      = v j := by
  by_cases hlt : (j 0).val < 16 * k
  · refine Eq.trans ?_ (hf j hlt)
    rw [View.read_apply, View.read_apply]
    refine congrArg _ (View.write_of_not_mem _ _ _ fun hi => ?_)
    rw [View.setOn, Finset.mem_map] at hi
    obtain ⟨y, -, hy⟩ := hi
    rw [oacc_emb hk ho h3 y] at hy
    have e : ((at16 k hk ⟨(y 2).val, (y 2).isLt⟩) 0).val = (j 0).val :=
      congrArg (fun i : S8192.Idx => (i 0).val) ((oR b c ho).view.emb.injective hy)
    have e' : 16 * k + (y 2).val = (j 0).val := e
    omega
  · have hl : (j 0).val - 16 * k < 16 := by omega
    let y : S1x1x16.Idx := ix3 (0 : Fin 1) (0 : Fin 1) ⟨(j 0).val - 16 * k, hl⟩
    have ej : j = at16 k hk ⟨(j 0).val - 16 * k, hl⟩ := by
      refine funext fun a => Fin.ext ?_
      obtain rfl : a = 0 := Subsingleton.elim _ _
      show (j 0).val = 16 * k + ((j 0).val - 16 * k)
      omega
    have hy : (oB.access (Rect.unit (s := S2x4x8192) ![b, c, 16 * k] S1x1x16.size h3)).emb y = (oR b c ho).view.emb j := by
      rw [oacc_emb hk ho h3 y]; exact congrArg _ ej.symm
    rw [View.read_apply, ← hy, View.write_emb_of_mem _ _ (Finset.mem_univ y)]
    show shapeCast S1x1x16 w shapeCasts_S16_S1x1x16 y = v j
    rw [block_apply]
    refine Eq.trans (hw ⟨(j 0).val - 16 * k, hl⟩) (congrArg v ej.symm)

end Sixteen

end Cert.Proof.Sc
-- ==== Proof.Copies.lean ====
/-
  The kernel's copies, as rules over owned pieces. A FETCH brings a slice of an array the tile only reads into a
  buffer of its own: it takes a share of the whole array, and the wait gives that share back with the buffer at the
  slice. The result leaves in groups of four: the four copies of a chunk count on one semaphore, and the four waits
  give back the four rows and the four pieces of the result, both at the rows' contents.
-/
module

public import proofs.«01_k».proof.Proof.Setup
public import Idealize.ShloMosaic.Lib.SparseCore.ProtocolKit

@[expose] public section

noncomputable section

namespace Cert.Proof.Sc

open Cert.KernelIdeal Cert.KernelIdeal.Gen
open Idealize.ShloMosaic
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ
/-- A program of the tile at grid point `L`. -/
abbrev TProg (F : FTy → Type) [FloatOps F] (L : grid0.Coords) (α : Type) : Type 1 :=
  Prog (TpuEff nD τ sig (Elt F) Λ₀ (.scVector ((L 0).castLE hcore0) ((L 1).castLE hsub0))) α

section
variable (d : Dev nD) (L : grid0.Coords) {α : Type}

/-- What the tile owes, its record of waits grown by the waits on its own copies. -/
def Owed (O : CellTallies nD τ sig (SparseCore.Cfg.HIx 1)) (W : Waits sig (SparseCore.Cfg.HIx 1)) : sProp 𝕄 :=
  iprop(∃ W', ⌜∀ p ∈ W', p ∈ W ∨ p.2 = none⌝ ∗ owes (thr d L) O W')

theorem Owed_insert {O : CellTallies nD τ sig (SparseCore.Cfg.HIx 1)} {W W' : Waits sig (SparseCore.Cfg.HIx 1)} {sm : SemLoc sig}
    (h : ∀ p ∈ W', p ∈ W ∨ p.2 = none) : (owes (thr d L) O (insert (sm, none) W') : sProp 𝕄) ⊢ Owed d L O W := by
  unfold Owed
  iintro H
  iexists (insert (sm, none) W')
  isplitr
  · ipureintro
    intro p hp
    rcases Finset.mem_insert.mp hp with rfl | hp
    · exact .inr rfl
    · exact h p hp
  iexact H

/-! ## Fetches -/

variable {sp sp' : Space} {s : Shape} {e : EltTy}

/-- A fetch under way: of the slice `src` of an array at `f`, held at share `q`, into `dst`. -/
def Fetch (src : Memref sig .scVector sp s e) (dst : Memref sig .scVector sp' s e) (sm : DmaSems sig S_) (q : PosShare TreeShare)
    (f : Buf (Elt F) (src.view.loc (thr d L))) : sProp 𝕄 :=
  iprop(Flight EC (thr d L) (.dma sm.sem) none (dst.view.amount (.dma sm.sem))
      iprop(owns (thr d L) dst fullShare (src.view.read (Elt F) f) ∗ (src.view.loc (thr d L) ↦[src.view.set]{q} f))
    ∗ (src.view.loc (thr d L) ↦[Finset.univ \ src.view.set]{q} f))

/-- Issuing a fetch. -/
theorem wp_fetch (src : Memref sig .scVector sp s e) (dst : Memref sig .scVector sp' s e) (sm : DmaSems sig S_) (q : PosShare TreeShare)
    (f : Buf (Elt F) (src.view.loc (thr d L))) (hn : 0 < s.numel)
    {m : Memref sig .scVector sp s e} (hm : m = src) {hsrc : m.view.WordExact} {hdst : dst.view.WordExact} {hsem : DmaTarget.Typed (nD := nD) sp (.dma sm.sem) (DmaTarget.here (p := Proc.scVector (cV L) (jV L)) dst)}
    {p : PUnit → TProg F L α} {Q : α → sProp 𝕄} :
    iprop((src.view.loc (thr d L) ↦{q} f) ∗ (∃ Z, owns (thr d L) dst fullShare Z) ∗ semVal (thr d L, SemLoc.dma sm.sem) 0)
      ⊢ (iprop((Fetch d L src dst sm q f -∗ wp frame (wpE (defs₀ (F := F)) 𝒱₀ (thr d L) none) Set.univ (p ⟨⟩) Q)
          -∗ wp frame (wpE (defs₀ (F := F)) 𝒱₀ (thr d L) none) Set.univ
              (.op (.enqueueDma m (.here dst) (.dma sm.sem) hsrc hdst hsem) p) Q) : sProp 𝕄) := by
  subst m
  iintro ⟨Hs, ⟨%Z, Hd⟩, Hv⟩ Hk
  ihave Hs' := (pointsTo_split_subset (ℓ := src.view.loc (thr d L)) (q := q) (f := f) (Finset.subset_univ src.view.set)).1 $$ Hs
  icases Hs' with ⟨Hs, Hrest⟩
  ihave Hd' := (show owns (thr d L) dst fullShare Z ⊢ iprop(∃ f, ⌜dst.view.read (Elt F) f = Z⌝
      ∗ (dst.view.loc (thr d L) ↦[dst.view.set]{fullShare} f)) from .rfl) $$ Hd
  icases Hd' with ⟨%fd, %_, Hd⟩
  iapply (wp_dmaLocal EC 𝒱₀ (thr d L) none none (dst.view.amount (.dma sm.sem)) rfl (View.amount_pos _ _ hn) (subset_refl dst.view.set)) $$ [Hs Hd Hv]
  · isplitl [Hs]; · iexact Hs
    isplitl [Hd]; · iexact Hd
    iexact Hv
  iintro HF
  iapply Hk
  unfold Fetch
  isplitl [HF]
  · iapply (Flight_mono EC (thr d L) ?_) $$ HF
    iintro ⟨Hd, Hs⟩
    isplitl [Hd]
    · ihave Hd' := (owns_intro (thr d L) dst fullShare _) $$ Hd
      rw [View.read_write_univ]
      iexact Hd'
    iexact Hs
  iexact Hrest

/-- Waiting for it. -/
theorem wp_fetched (src : Memref sig .scVector sp s e) (dst : Memref sig .scVector sp' s e) (sm : DmaSems sig S_) (q : PosShare TreeShare)
    (f : Buf (Elt F) (src.view.loc (thr d L))) (O : CellTallies nD τ sig (SparseCore.Cfg.HIx 1)) (W : Waits sig (SparseCore.Cfg.HIx 1))
    {spw : Space} {sw : Shape} {ew : EltTy} {srcw : Memref sig .scVector spw sw ew} {hsrc : srcw.view.WordExact} {hdst : dst.view.WordExact}
    {p : PUnit → TProg F L α} {Q : α → sProp 𝕄} :
    iprop(MayWaits (thr d L) none O ∗ Fetch d L src dst sm q f ∗ Owed d L O W)
      ⊢ (iprop((iprop((src.view.loc (thr d L) ↦{q} f) ∗ owns (thr d L) dst fullShare (src.view.read (Elt F) f)
              ∗ semVal (thr d L, SemLoc.dma sm.sem) 0 ∗ Owed d L O W)
            -∗ wp frame (wpE (defs₀ (F := F)) 𝒱₀ (thr d L) none) Set.univ (p ⟨⟩) Q)
          -∗ wp frame (wpE (defs₀ (F := F)) 𝒱₀ (thr d L) none) Set.univ (.op (.waitDma2 sm.sem srcw dst hsrc hdst) p) Q) : sProp 𝕄) := by
  unfold Fetch
  iintro ⟨Hmw, ⟨HF, Hrest⟩, HO⟩ Hk
  ihave HO' := (show Owed d L O W ⊢ iprop(∃ W', ⌜∀ p ∈ W', p ∈ W ∨ p.2 = none⌝ ∗ owes (thr d L) O W') from .rfl) $$ HO
  icases HO' with ⟨%W', %hW, HO⟩
  ihave Hm := (MayWaits.elim (SemLoc.dma sm.sem)) $$ Hmw
  iapply (wp_waitLocalO EC 𝒱₀ (thr d L) none none (show dst.view.dmaCredit = dst.view.amount (.dma sm.sem) from rfl)) $$ [HF HO Hm]
  · isplitl [HF]; · iexact HF
    isplitl [HO]; · iexact HO
    iexact Hm
  iintro ⟨⟨Hd, Hs⟩, Hv, HO⟩
  iapply Hk
  isplitl [Hs Hrest]
  · iapply (pointsTo_split_subset (ℓ := src.view.loc (thr d L)) (q := q) (f := f) (Finset.subset_univ src.view.set)).2
    isplitl [Hs] <;> iassumption
  isplitl [Hd]; · iexact Hd
  isplitl [Hv]; · iexact Hv
  iapply (Owed_insert d L hW) $$ HO

/-! ## Groups of four -/

/-- What the copy of a row counts on its semaphore. -/
def outCredit : ℕ := sig.dmaCredit .scVector (Kind.table .scVector .hbm) oM.view.buf S8192 .f32

theorem outCredit_pos : 0 < outCredit := sig.dmaCredit_pos _ _ _ _ _ (by decide)

/-- Four, of a family over the channels. -/
def four (Φ : Fin 4 → sProp 𝕄) : sProp 𝕄 := iprop(Φ 0 ∗ Φ 1 ∗ Φ 2 ∗ Φ 3)

theorem four_univ (Φ : Fin 4 → sProp 𝕄) : (bigSep Finset.univ Φ : sProp 𝕄) = four Φ := by
  rw [show (Finset.univ : Finset (Fin 4)) = {0, 1, 2, 3} by decide, SparseCore.bigSep_insert' (by decide),
    SparseCore.bigSep_insert' (by decide), SparseCore.bigSep_insert' (by decide), bigSep_singleton]
  rfl

/-- What copying a row `src` to a piece `dst` of the result delivers: both, at the row's contents. -/
def Sent (src : Memref sig .scVector sp S8192 .f32) (dst : Memref sig .scVector sp' S8192 .f32) (Y : S8192.Idx → Elt F .f32) : sProp 𝕄 :=
  iprop(owns (thr d L) src fullShare Y ∗ owns (thr d L) dst fullShare Y)

instance Sent_storable (src : Memref sig .scVector sp S8192 .f32) (dst : Memref sig .scVector sp' S8192 .f32) (Y : S8192.Idx → Elt F .f32) :
    BI.Storable (upEmb : UEmb _ 𝕄) (Sent d L src dst Y) := by
  unfold Sent; infer_instance

/-- The copies of a chunk's four rows under way, `k` of them issued. -/
def Sending (sm : DmaSems sig S_) (src : Fin 4 → Memref sig .scVector sp S8192 .f32) (dst : Fin 4 → Memref sig .scVector sp' S8192 .f32)
    (Y : Fin 4 → S8192.Idx → Elt F .f32) (k : ℕ) : sProp 𝕄 :=
  Batch EC (thr d L) (.dma sm.sem) none outCredit (fun c : Fin 4 => Sent d L (src c) (dst c) (Y c)) k 0

variable (sm : DmaSems sig S_) (src : Fin 4 → Memref sig .scVector sp S8192 .f32) (dst : Fin 4 → Memref sig .scVector sp' S8192 .f32)
    (Y : Fin 4 → S8192.Idx → Elt F .f32)

/-- Before the first. -/
theorem Sending_zero : (semVal (thr d L, SemLoc.dma sm.sem) 0 : sProp 𝕄) ⊢ |={Set.univ}=> Sending d L sm src dst Y 0 :=
  batch_alloc' EC (thr d L) none outCredit (fun c : Fin 4 => Sent d L (src c) (dst c) (Y c))

/-- Issuing the copy of row `c`. -/
theorem wp_send (hN : ∀ c, (dst c).view.dmaCredit = outCredit) (c : ℕ) (hc : c < 4) {m : Memref sig .scVector sp S8192 .f32} {n : Memref sig .scVector sp' S8192 .f32} (hm : m = src ⟨c, hc⟩)
    (hn : n = dst ⟨c, hc⟩)
    {hsrc : m.view.WordExact} {hdst : n.view.WordExact} {hsem : DmaTarget.Typed (nD := nD) sp (.dma sm.sem) (DmaTarget.here (p := Proc.scVector (cV L) (jV L)) n)}
    {p : PUnit → TProg F L α} {Q : α → sProp 𝕄} :
    iprop(owns (thr d L) (src ⟨c, hc⟩) fullShare (Y ⟨c, hc⟩) ∗ (∃ Z, owns (thr d L) (dst ⟨c, hc⟩) fullShare Z) ∗ Sending d L sm src dst Y c)
      ⊢ (iprop((Sending d L sm src dst Y (c + 1) -∗ wp frame (wpE (defs₀ (F := F)) 𝒱₀ (thr d L) none) Set.univ (p ⟨⟩) Q)
          -∗ wp frame (wpE (defs₀ (F := F)) 𝒱₀ (thr d L) none) Set.univ
              (.op (.enqueueDma m (.here n) (.dma sm.sem) hsrc hdst hsem) p) Q) : sProp 𝕄) := by
  subst hm hn
  unfold Sending
  iintro ⟨Hs, ⟨%Z, Hd⟩, HB⟩ Hk
  ihave Hs' := (show owns (thr d L) (src ⟨c, hc⟩) fullShare (Y ⟨c, hc⟩) ⊢ iprop(∃ f, ⌜(src ⟨c, hc⟩).view.read (Elt F) f = Y ⟨c, hc⟩⌝
      ∗ ((src ⟨c, hc⟩).view.loc (thr d L) ↦[(src ⟨c, hc⟩).view.set]{fullShare} f)) from .rfl) $$ Hs
  icases Hs' with ⟨%fs, %hfs, Hs⟩
  ihave Hd' := (show owns (thr d L) (dst ⟨c, hc⟩) fullShare Z ⊢ iprop(∃ f, ⌜(dst ⟨c, hc⟩).view.read (Elt F) f = Z⌝
      ∗ ((dst ⟨c, hc⟩).view.loc (thr d L) ↦[(dst ⟨c, hc⟩).view.set]{fullShare} f)) from .rfl) $$ Hd
  icases Hd' with ⟨%fd, %_, Hd⟩
  iapply (wp_dmaBatch EC 𝒱₀ (thr d L) none (src := src ⟨c, hc⟩) (dst := dst ⟨c, hc⟩) (q := fullShare) (fs := fs) (fd := fd)
    (D := fun c : Fin 4 => Sent d L (src c) (dst c) (Y c))
    (sm := SemLoc.dma sm.sem) none outCredit (hN ⟨c, hc⟩) (subset_refl (dst ⟨c, hc⟩).view.set) hc (Nat.zero_le _) ?_) $$ [Hs Hd HB]
  · unfold Sent
    iintro ⟨Hd, Hs⟩
    isplitl [Hs]
    · ihave Hs' := (owns_intro (thr d L) (src ⟨c, hc⟩) fullShare fs) $$ Hs
      rw [hfs]
      iexact Hs'
    ihave Hd' := (owns_intro (thr d L) (dst ⟨c, hc⟩) fullShare _) $$ Hd
    rw [View.read_write_univ]
    rw [← hfs]
    iexact Hd'
  · isplitl [Hs]; · iexact Hs
    isplitl [Hd]; · iexact Hd
    iexact HB
  iexact Hk

/-- The four waits of a chunk's copies. -/
theorem wp_drain (O : CellTallies nD τ sig (SparseCore.Cfg.HIx 1)) (W : Waits sig (SparseCore.Cfg.HIx 1))
    {spw spw' : Space} {m0 m1 m2 m3 : Memref sig .scVector spw S8192 .f32} {n0 n1 n2 n3 : Memref sig .scVector spw' S8192 .f32}
    {h0 : m0.view.WordExact} {h1 : m1.view.WordExact} {h2 : m2.view.WordExact} {h3 : m3.view.WordExact}
    {g0 : n0.view.WordExact} {g1 : n1.view.WordExact} {g2 : n2.view.WordExact} {g3 : n3.view.WordExact}
    (k0 : n0.view.dmaCredit = outCredit) (k1 : n1.view.dmaCredit = outCredit) (k2 : n2.view.dmaCredit = outCredit)
    (k3 : n3.view.dmaCredit = outCredit) {p : PUnit → TProg F L α} {Q : α → sProp 𝕄} :
    iprop(MayWaits (thr d L) none O ∗ Sending d L sm src dst Y 4 ∗ Owed d L O W)
      ⊢ (iprop((iprop(four (fun c => Sent d L (src c) (dst c) (Y c)) ∗ semVal (thr d L, SemLoc.dma sm.sem) 0 ∗ Owed d L O W)
            -∗ wp frame (wpE (defs₀ (F := F)) 𝒱₀ (thr d L) none) Set.univ (p ⟨⟩) Q)
          -∗ wp frame (wpE (defs₀ (F := F)) 𝒱₀ (thr d L) none) Set.univ
              (.op (.waitDma2 sm.sem m0 n0 h0 g0) fun _ => .op (.waitDma2 sm.sem m1 n1 h1 g1) fun _ =>
               .op (.waitDma2 sm.sem m2 n2 h2 g2) fun _ => .op (.waitDma2 sm.sem m3 n3 h3 g3) p) Q) : sProp 𝕄) := by
  unfold Sending
  iintro ⟨#Hmw, HB, HO⟩ Hk
  ihave HO' := (show Owed d L O W ⊢ iprop(∃ W', ⌜∀ p ∈ W', p ∈ W ∨ p.2 = none⌝ ∗ owes (thr d L) O W') from .rfl) $$ HO
  icases HO' with ⟨%W', %hW, HO⟩
  ihave #Hm := (MayWaits.elim (SemLoc.dma sm.sem)) $$ Hmw
  iapply (wp_waitBatchO EC 𝒱₀ (thr d L) none (D := fun c : Fin 4 => Sent d L (src c) (dst c) (Y c)) none k0 (u := 0) (by have := outCredit_pos; omega)) $$ [HB HO]
  · isplitl [HB]; · iexact HB
    isplitl [HO]; · iexact HO
    iexact Hm
  iintro ⟨HB, HO⟩
  iapply (wp_waitBatchO EC 𝒱₀ (thr d L) none (D := fun c : Fin 4 => Sent d L (src c) (dst c) (Y c)) none k1 (u := 0 + outCredit) (by have := outCredit_pos; omega)) $$ [HB HO]
  · isplitl [HB]; · iexact HB
    isplitl [HO]; · iexact HO
    iexact Hm
  iintro ⟨HB, HO⟩
  iapply (wp_waitBatchO EC 𝒱₀ (thr d L) none (D := fun c : Fin 4 => Sent d L (src c) (dst c) (Y c)) none k2 (u := 0 + outCredit + outCredit) (by have := outCredit_pos; omega)) $$ [HB HO]
  · isplitl [HB]; · iexact HB
    isplitl [HO]; · iexact HO
    iexact Hm
  iintro ⟨HB, HO⟩
  iapply (wp_waitBatchLastO EC 𝒱₀ (thr d L) none (D := fun c : Fin 4 => Sent d L (src c) (dst c) (Y c)) none k3 outCredit_pos (u := 0 + outCredit + outCredit + outCredit) (by omega)) $$ [HB HO]
  · isplitl [HB]; · iexact HB
    isplitl [HO]; · iexact HO
    iexact Hm
  iintro ⟨HD, Hv, HO⟩
  iapply Hk
  isplitl [HD]
  · rw [← four_univ]; iexact HD
  isplitl [Hv]; · iexact Hv
  iapply (Owed_insert d L (W := W) (sm := SemLoc.dma sm.sem) ?_) $$ HO
  intro p hp
  simp only [Finset.mem_insert] at hp
  rcases hp with rfl | rfl | rfl | hp
  · exact .inr rfl
  · exact .inr rfl
  · exact .inr rfl
  · exact hW p hp

end

end Cert.Proof.Sc
-- ==== Proof.Trip.lean ====
/-
  One trip of the vector loop: sixteen elements of a row of the staged input, looked up in the four tables and written
  into the four rows of the staged result; then the loop's 512 trips, which fill the four rows.
-/
module

public import proofs.«01_k».proof.Proof.Geometry
public import proofs.«01_k».proof.Proof.Copies

@[expose] public section

noncomputable section

namespace Cert.Proof.Sc

open Cert.KernelIdeal Cert.KernelIdeal.Gen
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

section
variable (d : Dev nD) (L : grid0.Coords) {α : Type}

/-- Row `(b, c)` of the staged result, its first `16 k` elements at `v`. -/
def RowTo (b c : ℕ) (ho : ∀ a, (![b, c, 0] : Fin 3 → ℕ) a + S1x1x8192.size a ≤ S2x4x8192.size a)
    (v : S8192.Idx → Elt F .f32) (k : ℕ) : sProp 𝕄 :=
  iprop(∃ f : S2x4x8192.Idx → Elt F .f32, ⌜∀ j : S8192.Idx, (j 0).val < 16 * k → (oR b c ho).view.read (Elt F) f j = v j⌝
    ∗ ((oR b c ho).view.loc (thr d L) ↦[(oR b c ho).view.set]{fullShare} f))

variable {b c k : ℕ} (hk : k < 512)
  (hx : ∀ a, (![b, 0] : Fin 2 → ℕ) a + S1x8192.size a ≤ S2x8192.size a)
  (ho : ∀ a, (![b, c, 0] : Fin 3 → ℕ) a + S1x1x8192.size a ≤ S2x4x8192.size a)

/-- The load of sixteen elements of row `b`. -/
theorem wp_xload {o : Fin 2 → ℕ} (h : ∀ a, o a + S1x16.size a ≤ S2x8192.size a) (eo : o = ![b, 16 * k]) (X : S8192.Idx → Elt F .f32)
    {hl : xB.view.LoadsAt (Rect.unit (s := S2x8192) o S1x16.size h).toLoadRect} {p : Vec F S1x16 .f32 → TProg F L α} {Q : α → sProp 𝕄} :
    (owns (thr d L) (xR b hx) fullShare X : sProp 𝕄)
      ⊢ iprop((∀ ld : Vec F S1x16 .f32, ⌜∀ l : S16.Idx, ld (laneIx l) = X (at16 k hk ⟨(l 0).val, (l 0).isLt⟩)⌝
            -∗ owns (thr d L) (xR b hx) fullShare X -∗ wp frame (wpE (defs₀ (F := F)) 𝒱₀ (thr d L) none) Set.univ (p ld) Q)
          -∗ wp frame (wpE (defs₀ (F := F)) 𝒱₀ (thr d L) none) Set.univ
              (.op (.load xB (Rect.unit (s := S2x8192) o S1x16.size h).toLoadRect hl) p) Q) := by
  subst eo
  iintro H Hk
  ihave H' := (show owns (thr d L) (xR b hx) fullShare X ⊢ iprop(∃ f, ⌜(xR b hx).view.read (Elt F) f = X⌝
      ∗ (xB.view.loc (thr d L) ↦[(xR b hx).view.set]{fullShare} f)) from .rfl) $$ H
  icases H' with ⟨%f, %hf, H⟩
  iapply (wp_load 𝒱₀ (thr d L) none Set.univ (m := xB) (r := (Rect.unit (s := S2x8192) ![b, 16 * k] S1x16.size h).toLoadRect)
    (xload_subset hk hx h)) $$ H
  iintro H
  have hld : ∀ l : S16.Idx, xB.view.readAt (Elt F) (Rect.unit (s := S2x8192) ![b, 16 * k] S1x16.size h).toLoadRect f (laneIx l)
      = X (at16 k hk ⟨(l 0).val, (l 0).isLt⟩) := fun l => by rw [xload_apply hk hx h, hf]
  iapply Hk $$ %_ %hld
  ihave H' := (owns_intro (thr d L) (xR b hx) fullShare f) $$ H
  rw [hf]
  iexact H'

/-- One channel of a trip: gather sixteen words of the table, and store the sixteen results into row `(b, c)`. -/
theorem wp_channel (t : Memref sig .scVector .vmem S256 .i32) {o : Fin 3 → ℕ} (h : ∀ a, o a + S1x1x16.size a ≤ S2x4x8192.size a)
    (eo : o = ![b, c, 16 * k]) (X : S8192.Idx → Elt F .f32) (W : S256.Idx → BitVec 32) (ld : Vec F S1x16 .f32)
    (hld : ∀ l : S16.Idx, ld (laneIx l) = X (at16 k hk ⟨(l 0).val, (l 0).isLt⟩))
    (g : Vec F S16 .i32 → FVec F S16 .f32) (hg : ∀ w l, g w l = lin (ld (laneIx l)) (w l))
    {hi : ∀ a x, ((![k0_pay2 ld] : Fin 1 → IVec S16 32) a x).toNat < S256.size a} {hlt : t.view.Loads}
    {hl : oB.view.LoadsAt (Rect.unit (s := S2x4x8192) o S1x1x16.size h).toLoadRect}
    {hs : (oB.access (Rect.unit (s := S2x4x8192) o S1x1x16.size h)).Stores Finset.univ} {hm : _}
    {p : PUnit → TProg F L α} {Q : α → sProp 𝕄} :
    iprop(owns (thr d L) t fullShare W ∗ RowTo d L b c ho (rowVal X W) k)
      ⊢ (iprop((iprop(owns (thr d L) t fullShare W ∗ RowTo d L b c ho (rowVal X W) (k + 1))
            -∗ wp frame (wpE (defs₀ (F := F)) 𝒱₀ (thr d L) none) Set.univ (p ⟨⟩) Q)
          -∗ wp frame (wpE (defs₀ (F := F)) 𝒱₀ (thr d L) none) Set.univ
              (SparseCore.vectorLoadIdx t ![k0_pay2 ld] hi hlt >>= fun w =>
                .op (.load oB (Rect.unit (s := S2x4x8192) o S1x1x16.size h).toLoadRect hl) fun _ =>
                .op (.store oB (Rect.unit (s := S2x4x8192) o S1x1x16.size h) (shapeCast S1x1x16 (g w) shapeCasts_S16_S1x1x16) Finset.univ hs hm) p) Q) : sProp 𝕄) := by
  subst eo
  unfold RowTo
  iintro ⟨Ht, ⟨%f, %hf, Hr⟩⟩ Hk
  ihave Ht' := (show owns (thr d L) t fullShare W ⊢ iprop(∃ f, ⌜t.view.read (Elt F) f = W⌝
      ∗ ((t.access (.whole S256)).loc (thr d L) ↦[t.view.set]{fullShare} f)) from .rfl) $$ Ht
  icases Ht' with ⟨%ft, %hft, Ht⟩
  iapply (SparseCore.wp_vectorLoadIdx 𝒱₀ (thr d L) none Set.univ (S := t.view.set) (View.set_slice_subset _ _)) $$ Ht
  iintro Ht
  iapply (wp_load 𝒱₀ (thr d L) none Set.univ (m := oB) (r := (Rect.unit (s := S2x4x8192) ![b, c, 16 * k] S1x1x16.size h).toLoadRect)
    (oload_subset hk ho h)) $$ Hr
  iintro Hr
  iapply (wp_store 𝒱₀ (thr d L) none Set.univ (ostore_subset hk ho h)) $$ Hr
  iintro Hr
  iapply Hk
  isplitl [Ht]
  · ihave Ht' := (owns_intro (thr d L) t fullShare ft) $$ Ht
    rw [hft]
    iexact Ht'
  iexists ((oB.access (Rect.unit (s := S2x4x8192) ![b, c, 16 * k] S1x1x16.size h)).write (Elt F) f
    (shapeCast S1x1x16 (g (loadIdx ((t.access (.whole S256)).read (Elt F) ft) ![k0_pay2 ld] hi)) shapeCasts_S16_S1x1x16) Finset.univ)
  isplitr
  · ipureintro
    refine ostore_read hk ho h _ f _ hf fun l => ?_
    rw [hg, gather_apply ld _ hi (ix1 l), hld]
    unfold rowVal
    refine congrArg _ ?_
    rw [← hft]
    show t.view.read (Elt F) ft ((Rect.whole S256).emb _) = t.view.read (Elt F) ft _
    rw [Rect.emb_whole_apply]
  iexact Hr

/-! ## A trip -/

/-- One trip, over the places its loads and stores touch. Both of the kernel's vector loops run it. -/
def trip (L : grid0.Coords) (ox : Fin 2 → ℕ) (hx : ∀ a, ox a + S1x16.size a ≤ S2x8192.size a)
    (o0 o1 o2 o3 : Fin 3 → ℕ) (h0 : ∀ a, o0 a + S1x1x16.size a ≤ S2x4x8192.size a) (h1 : ∀ a, o1 a + S1x1x16.size a ≤ S2x4x8192.size a)
    (h2 : ∀ a, o2 a + S1x1x16.size a ≤ S2x4x8192.size a) (h3 : ∀ a, o3 a + S1x1x16.size a ≤ S2x4x8192.size a) : TProg F L Unit :=
  .op (.load xB (Rect.unit (s := S2x8192) ox S1x16.size hx).toLoadRect (View.loadsAt_vmem h_S1x16)) fun ld =>
  .op (TpuEff.assume (k0_chk1 (k0_pay2 ld)) (k0_chk1.dec (k0_pay2 ld))) fun hw =>
  SparseCore.vectorLoadIdx t0 ![k0_pay2 ld] (k0_idx1_inb _ hw.down) (View.loads_vmem h_S256) >>= fun w0 =>
  .op (.load oB (Rect.unit (s := S2x4x8192) o0 S1x1x16.size h0).toLoadRect (View.loadsAt_vmem h_S1x1x16)) fun _ =>
  .op (.store oB (Rect.unit (s := S2x4x8192) o0 S1x1x16.size h0) (shapeCast S1x1x16 (k0_pay4 ld (k0_pay2 ld) w0) shapeCasts_S16_S1x1x16)
    Finset.univ (View.stores_vmem_bits_univ h_S1x1x16 rfl) (.inl rfl)) fun _ =>
  SparseCore.vectorLoadIdx t1 ![k0_pay2 ld] (k0_idx2_inb _ hw.down) (View.loads_vmem h_S256) >>= fun w1 =>
  .op (.load oB (Rect.unit (s := S2x4x8192) o1 S1x1x16.size h1).toLoadRect (View.loadsAt_vmem h_S1x1x16)) fun _ =>
  .op (.store oB (Rect.unit (s := S2x4x8192) o1 S1x1x16.size h1) (shapeCast S1x1x16 (k0_pay5 ld (k0_pay2 ld) w1) shapeCasts_S16_S1x1x16)
    Finset.univ (View.stores_vmem_bits_univ h_S1x1x16 rfl) (.inl rfl)) fun _ =>
  SparseCore.vectorLoadIdx t2 ![k0_pay2 ld] (k0_idx3_inb _ hw.down) (View.loads_vmem h_S256) >>= fun w2 =>
  .op (.load oB (Rect.unit (s := S2x4x8192) o2 S1x1x16.size h2).toLoadRect (View.loadsAt_vmem h_S1x1x16)) fun _ =>
  .op (.store oB (Rect.unit (s := S2x4x8192) o2 S1x1x16.size h2) (shapeCast S1x1x16 (k0_pay11 (k0_pay3 ld (k0_pay2 ld)) w2) shapeCasts_S16_S1x1x16)
    Finset.univ (View.stores_vmem_bits_univ h_S1x1x16 rfl) (.inl rfl)) fun _ =>
  SparseCore.vectorLoadIdx t3 ![k0_pay2 ld] (k0_idx4_inb _ hw.down) (View.loads_vmem h_S256) >>= fun w3 =>
  .op (.load oB (Rect.unit (s := S2x4x8192) o3 S1x1x16.size h3).toLoadRect (View.loadsAt_vmem h_S1x1x16)) fun _ =>
  .op (.store oB (Rect.unit (s := S2x4x8192) o3 S1x1x16.size h3) (shapeCast S1x1x16 (k0_pay12 (k0_pay3 ld (k0_pay2 ld)) w3) shapeCasts_S16_S1x1x16)
    Finset.univ (View.stores_vmem_bits_univ h_S1x1x16 rfl) (.inl rfl)) fun _ => .ret ()

/-- What a trip works on: row `b` of the input, the four tables, and the four rows of the result, their first
    `16 k` elements done. -/
def TripState (b : ℕ) (hx : ∀ a, (![b, 0] : Fin 2 → ℕ) a + S1x8192.size a ≤ S2x8192.size a)
    (ho : ∀ c : Fin 4, ∀ a, (![b, c.val, 0] : Fin 3 → ℕ) a + S1x1x8192.size a ≤ S2x4x8192.size a)
    (X : S8192.Idx → Elt F .f32) (W : Fin 4 → S256.Idx → BitVec 32) (k : ℕ) : sProp 𝕄 :=
  iprop(owns (thr d L) (xR b hx) fullShare X
    ∗ (owns (thr d L) t0 fullShare (W 0) ∗ RowTo d L b (0 : Fin 4).val (ho 0) (rowVal X (W 0)) k)
    ∗ (owns (thr d L) t1 fullShare (W 1) ∗ RowTo d L b (1 : Fin 4).val (ho 1) (rowVal X (W 1)) k)
    ∗ (owns (thr d L) t2 fullShare (W 2) ∗ RowTo d L b (2 : Fin 4).val (ho 2) (rowVal X (W 2)) k)
    ∗ (owns (thr d L) t3 fullShare (W 3) ∗ RowTo d L b (3 : Fin 4).val (ho 3) (rowVal X (W 3)) k))

/-- A trip takes the rows from their first `16 k` elements to their first `16 (k + 1)`. -/
theorem wp_trip {b k : ℕ} (hk : k < 512) (hxr : ∀ a, (![b, 0] : Fin 2 → ℕ) a + S1x8192.size a ≤ S2x8192.size a)
    (hor : ∀ c : Fin 4, ∀ a, (![b, c.val, 0] : Fin 3 → ℕ) a + S1x1x8192.size a ≤ S2x4x8192.size a)
    (X : S8192.Idx → Elt F .f32) (W : Fin 4 → S256.Idx → BitVec 32)
    {ox : Fin 2 → ℕ} {hx : ∀ a, ox a + S1x16.size a ≤ S2x8192.size a}
    {o0 o1 o2 o3 : Fin 3 → ℕ} {h0 : ∀ a, o0 a + S1x1x16.size a ≤ S2x4x8192.size a} {h1 : ∀ a, o1 a + S1x1x16.size a ≤ S2x4x8192.size a}
    {h2 : ∀ a, o2 a + S1x1x16.size a ≤ S2x4x8192.size a} {h3 : ∀ a, o3 a + S1x1x16.size a ≤ S2x4x8192.size a}
    (ex : ox = ![b, 16 * k]) (e0 : o0 = ![b, (0 : Fin 4).val, 16 * k]) (e1 : o1 = ![b, (1 : Fin 4).val, 16 * k])
    (e2 : o2 = ![b, (2 : Fin 4).val, 16 * k]) (e3 : o3 = ![b, (3 : Fin 4).val, 16 * k]) :
    (TripState d L b hxr hor X W k : sProp 𝕄)
      ⊢ wp frame (wpE (defs₀ (F := F)) 𝒱₀ (thr d L) none) Set.univ (trip (F := F) L ox hx o0 o1 o2 o3 h0 h1 h2 h3)
          fun _ => TripState d L b hxr hor X W (k + 1) := by
  unfold trip TripState
  iintro ⟨Hx, H0, H1, H2, H3⟩
  iapply (wp_xload d L hk hxr hx ex X) $$ Hx
  iintro %ld %hld Hx
  rw [wp_assume_of 𝒱₀ (thr d L) none Set.univ (chk_pay2 ld)]
  iapply (wp_channel d L hk (hor 0) t0 h0 e0 X (W 0) ld hld (fun w => k0_pay4 ld (k0_pay2 ld) w) (fun w l => pay4_apply ld w l)) $$ H0
  iintro H0
  iapply (wp_channel d L hk (hor 1) t1 h1 e1 X (W 1) ld hld (fun w => k0_pay5 ld (k0_pay2 ld) w) (fun w l => pay5_apply ld w l)) $$ H1
  iintro H1
  iapply (wp_channel d L hk (hor 2) t2 h2 e2 X (W 2) ld hld (fun w => k0_pay11 (k0_pay3 ld (k0_pay2 ld)) w) (fun w l => pay11_apply ld w l)) $$ H2
  iintro H2
  iapply (wp_channel d L hk (hor 3) t3 h3 e3 X (W 3) ld hld (fun w => k0_pay12 (k0_pay3 ld (k0_pay2 ld)) w) (fun w l => pay12_apply ld w l)) $$ H3
  iintro H3
  rw [wp_ret]
  imodintro
  isplitl [Hx]; · iexact Hx
  isplitl [H0]; · iexact H0
  isplitl [H1]; · iexact H1
  isplitl [H2]; · iexact H2
  iexact H3

/-! ## The two vector loops -/

/-- The bodies of the kernel's two vector loops, at its buffers. -/
abbrev body2 (L : grid0.Coords) (a b c e f : BitVec 32) (t : Fin k0_t1_loop.trips) : Fin k0_t2_loop.trips → Unit → TProg F L Unit :=
  k0_t2_body (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b c e f t
abbrev body3 (L : grid0.Coords) (a b c : BitVec 32) (t : Fin k0_t1_loop.trips) (e : BitVec 32) : Fin k0_t3_loop.trips → Unit → TProg F L Unit :=
  k0_t3_body (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b c t e

theorem body2_eq (L : grid0.Coords) (a b c e f : BitVec 32) (t : Fin k0_t1_loop.trips) (k : Fin k0_t2_loop.trips) (u : Unit) :
    body2 (F := F) L a b c e f t k u = trip L (k0_off6 k) (k0_off6_inb k) (k0_off7 k) (k0_off8 k) (k0_off9 k) (k0_off10 k)
      (k0_off7_inb k) (k0_off8_inb k) (k0_off9_inb k) (k0_off10_inb k) := rfl
theorem body3_eq (L : grid0.Coords) (a b c : BitVec 32) (t : Fin k0_t1_loop.trips) (e : BitVec 32) (k : Fin k0_t3_loop.trips) (u : Unit) :
    body3 (F := F) L a b c t e k u = trip L (k0_off14 k) (k0_off14_inb k) (k0_off15 k) (k0_off16 k) (k0_off17 k) (k0_off18 k)
      (k0_off15_inb k) (k0_off16_inb k) (k0_off17_inb k) (k0_off18_inb k) := rfl

theorem trips2 : k0_t2_loop.trips = 512 := by decide +kernel
theorem trips3 : k0_t3_loop.trips = 512 := by decide +kernel

end

end Cert.Proof.Sc
-- ==== Proof.Rows.lean ====
/-
  What a tile works with, chunk by chunk: the chunk of the image, the four rows of the packed words, the four pieces
  of the result — and a vector loop's 512 trips, which take a chunk to the four rows of its result.
-/
module

public import proofs.«01_k».proof.Proof.Trip

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

/-! ## The pieces, chunk by chunk -/

theorem xo_inb (L : grid0.Coords) (j : ℕ) : ∀ a, (![xo L (j % 32)] : Fin 1 → ℕ) a + S8192.size a ≤ S8388608.size a := by
  intro a
  have := wid_lt L
  fin_cases a
  show xo L (j % 32) + 8192 ≤ 8388608
  unfold xo; omega
theorem oo_inb (L : grid0.Coords) (c : Fin 4) (j : ℕ) : ∀ a, (![oo L c.val (j % 32)] : Fin 1 → ℕ) a + S8192.size a ≤ S33554432.size a := by
  intro a
  have := wid_lt L
  have := c.isLt
  fin_cases a
  show oo L c.val (j % 32) + 8192 ≤ 33554432
  unfold oo; omega
theorem wo_inb (L : grid0.Coords) (c : Fin 4) : ∀ a, (![(wid L / 8 * 4 + c.val) * 256] : Fin 1 → ℕ) a + S256.size a ≤ S4096.size a := by
  intro a
  have := wid_lt L
  have := c.isLt
  fin_cases a
  show (wid L / 8 * 4 + c.val) * 256 + 256 ≤ 4096
  omega
theorem xr_inb (b : Fin 2) : ∀ a, (![b.val, 0] : Fin 2 → ℕ) a + S1x8192.size a ≤ S2x8192.size a := by
  revert b; decide
theorem or_inb (b : Fin 2) (c : Fin 4) : ∀ a, (![b.val, c.val, 0] : Fin 3 → ℕ) a + S1x1x8192.size a ≤ S2x4x8192.size a := by
  revert b c; decide

/-- Chunk `j` of the tile's image, channel `c`'s row of packed words, and channel `c`'s piece of the result at chunk `j`. -/
abbrev xP (L : grid0.Coords) (j : ℕ) : Memref sig .scVector .hbm S8192 .f32 := xS ![xo L (j % 32)] (xo_inb L j)
abbrev wP (L : grid0.Coords) (c : Fin 4) : Memref sig .scVector .hbm S256 .i32 := wS ![(wid L / 8 * 4 + c.val) * 256] (wo_inb L c)
abbrev oP (L : grid0.Coords) (j : ℕ) (c : Fin 4) : Memref sig .scVector .hbm S8192 .f32 := oS ![oo L c.val (j % 32)] (oo_inb L c j)
/-- The staged rows. -/
abbrev xRow (b : Fin 2) : Memref sig .scVector .vmem S8192 .f32 := xR b.val (xr_inb b)
abbrev oRow (b : Fin 2) (c : Fin 4) : Memref sig .scVector .vmem S8192 .f32 := oR b.val c.val (or_inb b c)

theorem xS_congr {o o' : Fin 1 → ℕ} (e : o = o') (h : ∀ a, o a + S8192.size a ≤ S8388608.size a) (h' : ∀ a, o' a + S8192.size a ≤ S8388608.size a) :
    xS o h = xS o' h' := by subst e; rfl
theorem oS_congr {o o' : Fin 1 → ℕ} (e : o = o') (h : ∀ a, o a + S8192.size a ≤ S33554432.size a) (h' : ∀ a, o' a + S8192.size a ≤ S33554432.size a) :
    oS o h = oS o' h' := by subst e; rfl
theorem wS_congr {o o' : Fin 1 → ℕ} (e : o = o') (h : ∀ a, o a + S256.size a ≤ S4096.size a) (h' : ∀ a, o' a + S256.size a ≤ S4096.size a) :
    wS o h = wS o' h' := by subst e; rfl

theorem trips1 : k0_t1_loop.trips = 16 := by decide +kernel

theorem lt16 (t : Fin k0_t1_loop.trips) : t.val < 16 := lt_of_lt_of_eq t.isLt trips1

/-- The program's slices are these pieces. -/
theorem wS_off1 (L : grid0.Coords) (r : Fin 4) (h) : wS (k0_off1 L (BitVec.ofNat 32 r.val)) h = wP L r := wS_congr (off1_eq L r) _ _
theorem xS_off2 (L : grid0.Coords) (h) : xS (k0_off2 L) h = xP L 0 := xS_congr (off2_eq L) _ _
theorem xS_off3 (L : grid0.Coords) (t : Fin k0_t1_loop.trips) (h) : xS (k0_off3 L t) h = xP L (2 * t.val + 1) :=
  xS_congr (by rw [off3_eq, Nat.mod_eq_of_lt (a := 2 * t.val + 1) (by have := lt16 t; omega)]) _ _
theorem xS_off12 (L : grid0.Coords) (t : Fin k0_t1_loop.trips) (hc : k0_cond3 t = 1#1) (h) : xS (k0_off12 L t) h = xP L (2 * (t.val + 1)) :=
  xS_congr (by rw [off12_eq L t hc, Nat.mod_eq_of_lt (by have := (cond3_iff t).mp hc; omega), Nat.mul_add]) _ _
theorem oS_off11 (L : grid0.Coords) (t : Fin k0_t1_loop.trips) (b : Fin 2) (c : Fin 4) (h) :
    oS (k0_off11 L t (BitVec.ofNat 32 c.val) (BitVec.ofNat 32 b.val)) h = oP L (2 * t.val + b.val) c :=
  oS_congr (by rw [off11_eq, Nat.mod_eq_of_lt (a := 2 * t.val + b.val) (by have := lt16 t; have := b.isLt; omega)]) _ _

section
variable (d : Dev nD) (L : grid0.Coords) (x : S8388608.Idx → Elt F .f32) (w : S4096.Idx → Elt F .i32)

/-- The contents: chunk `j`, the words of channel `c`, and the result's chunk `j` on channel `c`. -/
def Xc (j : ℕ) : S8192.Idx → Elt F .f32 := (xP L j).view.read (Elt F) x
def Wc (c : Fin 4) : S256.Idx → Elt F .i32 := (wP L c).view.read (Elt F) w
def Yc (j : ℕ) (c : Fin 4) : S8192.Idx → Elt F .f32 := rowVal (Xc L x j) (Wc L w c)

/-- The four tables, staged. -/
def Tabs (W : Fin 4 → S256.Idx → Elt F .i32) : sProp 𝕄 :=
  iprop(owns (thr d L) t0 fullShare (W 0) ∗ owns (thr d L) t1 fullShare (W 1) ∗ owns (thr d L) t2 fullShare (W 2) ∗ owns (thr d L) t3 fullShare (W 3))

/-- The four result rows of slot `b`, at any contents. -/
def RowsFree (b : Fin 2) : sProp 𝕄 := four fun c => iprop(∃ Z, owns (thr d L) (oRow b c) fullShare Z)

/-! ## A row, as its first elements -/

theorem row_begin (b : Fin 2) (c : Fin 4) (v : S8192.Idx → Elt F .f32) :
    iprop(∃ Z, owns (thr d L) (oRow b c) fullShare Z) ⊢ (RowTo d L b.val c.val (or_inb b c) v 0 : sProp 𝕄) := by
  iintro ⟨%Z, H⟩
  ihave H' := (show owns (thr d L) (oRow b c) fullShare Z ⊢ iprop(∃ f, ⌜(oRow b c).view.read (Elt F) f = Z⌝
      ∗ ((oRow b c).view.loc (thr d L) ↦[(oRow b c).view.set]{fullShare} f)) from .rfl) $$ H
  icases H' with ⟨%f, %_, H⟩
  unfold RowTo
  iexists f
  isplitr
  · ipureintro; intro j hj; omega
  iexact H

theorem row_end (b : Fin 2) (c : Fin 4) (v : S8192.Idx → Elt F .f32) :
    (RowTo d L b.val c.val (or_inb b c) v 512 : sProp 𝕄) ⊢ owns (thr d L) (oRow b c) fullShare v := by
  unfold RowTo
  iintro ⟨%f, %hf, H⟩
  have e : (oRow b c).view.read (Elt F) f = v := funext fun j => hf j (lt_of_lt_of_eq (j 0).isLt (by decide))
  ihave H' := (owns_intro (thr d L) (oRow b c) fullShare f) $$ H
  rw [e]
  iexact H'

/-- A vector loop. -/
theorem wp_rows (b : Fin 2) (X : S8192.Idx → Elt F .f32) (W : Fin 4 → S256.Idx → Elt F .i32)
    (loop : Scf.Loop 32) (ok : loop.OK) (body : Fin loop.trips → Unit → TProg F L Unit) (ht : loop.trips = 512)
    (hb : ∀ (k : Fin loop.trips) (u : Unit), (TripState d L b.val (xr_inb b) (or_inb b) X W k.val : sProp 𝕄)
      ⊢ wp frame (wpE (defs₀ (F := F)) 𝒱₀ (thr d L) none) Set.univ (body k u) fun _ => TripState d L b.val (xr_inb b) (or_inb b) X W (k.val + 1))
    {Q : Unit → sProp 𝕄} :
    iprop(owns (thr d L) (xRow b) fullShare X ∗ Tabs d L W ∗ RowsFree d L b)
      ⊢ (iprop((iprop(owns (thr d L) (xRow b) fullShare X ∗ Tabs d L W ∗ four fun c => owns (thr d L) (oRow b c) fullShare (rowVal X (W c))) -∗ Q ())
          -∗ wp frame (wpE (defs₀ (F := F)) 𝒱₀ (thr d L) none) Set.univ (Scf.Loop.for loop ok () body) Q) : sProp 𝕄) := by
  unfold Tabs RowsFree four
  iintro ⟨Hx, ⟨H0, H1, H2, H3⟩, ⟨R0, R1, R2, R3⟩⟩ Hk
  iapply (Scf.wp_for frame (wpE (defs₀ (F := F)) 𝒱₀ (thr d L) none) Set.univ loop.lb loop.ub loop.st ok () body
    (fun k _ => TripState d L b.val (xr_inb b) (or_inb b) X W k) hb)
  isplitr [Hk]
  · unfold TripState
    isplitl [Hx]; · iexact Hx
    isplitl [H0 R0]
    · isplitl [H0]; · iexact H0
      iapply (row_begin d L b 0 _) $$ R0
    isplitl [H1 R1]
    · isplitl [H1]; · iexact H1
      iapply (row_begin d L b 1 _) $$ R1
    isplitl [H2 R2]
    · isplitl [H2]; · iexact H2
      iapply (row_begin d L b 2 _) $$ R2
    isplitl [H3]; · iexact H3
    iapply (row_begin d L b 3 _) $$ R3
  iintro %u H
  rw [show Scf.trips loop.lb loop.ub loop.st = 512 from ht]
  unfold TripState
  icases H with ⟨Hx, ⟨H0, R0⟩, ⟨H1, R1⟩, ⟨H2, R2⟩, ⟨H3, R3⟩⟩
  iapply Hk
  isplitl [Hx]; · iexact Hx
  isplitl [H0 H1 H2 H3]
  · isplitl [H0]; · iexact H0
    isplitl [H1]; · iexact H1
    isplitl [H2] <;> iassumption
  isplitl [R0]; · iapply (row_end d L b 0 _) $$ R0
  isplitl [R1]; · iapply (row_end d L b 1 _) $$ R1
  isplitl [R2]; · iapply (row_end d L b 2 _) $$ R2
  iapply (row_end d L b 3 _) $$ R3

/-- The trips of the first vector loop, on slot 0, and of the second, on slot 1. -/
theorem wp_body2 (a1 a2 a3 a4 a5 : BitVec 32) (t : Fin k0_t1_loop.trips) (X : S8192.Idx → Elt F .f32) (W : Fin 4 → S256.Idx → Elt F .i32)
    (k : Fin k0_t2_loop.trips) (u : Unit) :
    (TripState d L (0 : Fin 2).val (xr_inb 0) (or_inb 0) X W k.val : sProp 𝕄)
      ⊢ wp frame (wpE (defs₀ (F := F)) 𝒱₀ (thr d L) none) Set.univ (body2 L a1 a2 a3 a4 a5 t k u)
        fun _ => TripState d L (0 : Fin 2).val (xr_inb 0) (or_inb 0) X W (k.val + 1) := by
  rw [body2_eq]
  exact wp_trip d L (lt_of_lt_of_eq k.isLt trips2) (xr_inb 0) (or_inb 0) X W (k0_off6_eq k) (k0_off7_eq k) (k0_off8_eq k) (k0_off9_eq k) (k0_off10_eq k)

theorem wp_body3 (a1 a2 a3 a4 : BitVec 32) (t : Fin k0_t1_loop.trips) (X : S8192.Idx → Elt F .f32) (W : Fin 4 → S256.Idx → Elt F .i32)
    (k : Fin k0_t3_loop.trips) (u : Unit) :
    (TripState d L (1 : Fin 2).val (xr_inb 1) (or_inb 1) X W k.val : sProp 𝕄)
      ⊢ wp frame (wpE (defs₀ (F := F)) 𝒱₀ (thr d L) none) Set.univ (body3 L a1 a2 a3 t a4 k u)
        fun _ => TripState d L (1 : Fin 2).val (xr_inb 1) (or_inb 1) X W (k.val + 1) := by
  rw [body3_eq]
  exact wp_trip d L (lt_of_lt_of_eq k.isLt trips3) (xr_inb 1) (or_inb 1) X W (k0_off14_eq k) (k0_off15_eq k) (k0_off16_eq k) (k0_off17_eq k) (k0_off18_eq k)

end

end Cert.Proof.Sc
-- ==== Proof.Chunk.lean ====
/-
  One trip of the tile's outer loop: two chunks of the image, one through each half of the staging buffers. At the head
  of trip `t` the fetch of chunk `2 t` is under way, and, from the second trip on, so are the copies out of chunks
  `2 t - 2` and `2 t - 1`.
-/
module

public import proofs.«01_k».proof.Proof.Rows

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

section
variable {α : Type} (d : Dev nD) (L : grid0.Coords) (x : S8388608.Idx → Elt F .f32) (w : S4096.Idx → Elt F .i32)

/-! ## The states of the two slots -/

/-- An input slot at rest: a share of the image, the staged row, the semaphore at zero. -/
def Slot (b : Fin 2) (sm : DmaSems sig S_) (q : PosShare TreeShare) : sProp 𝕄 :=
  iprop((xM.view.loc (thr d L) ↦{q} x) ∗ (∃ Z, owns (thr d L) (xRow b) fullShare Z) ∗ semVal (thr d L, SemLoc.dma sm.sem) 0)

/-- An input slot fetching chunk `j`. -/
def In (b : Fin 2) (sm : DmaSems sig S_) (q : PosShare TreeShare) (j : ℕ) : sProp 𝕄 := Fetch d L (xP L j) (xRow b) sm q x

/-- An output slot at the head of trip `t`. -/
def Out (b : Fin 2) (sm : DmaSems sig S_) : ℕ → sProp 𝕄
  | 0 => iprop(RowsFree d L b ∗ semVal (thr d L, SemLoc.dma sm.sem) 0)
  | t + 1 => Sending d L sm (oRow b) (oP L (2 * t + b.val)) (Yc L x w (2 * t + b.val)) 4

/-- Chunk `j` of the tile's result, untouched and done. -/
def Raw (j : ℕ) : sProp 𝕄 := four fun c => iprop(∃ Z, owns (thr d L) (oP L j c) fullShare Z)
def Written (j : ℕ) : sProp 𝕄 := four fun c => owns (thr d L) (oP L j c) fullShare (Yc L x w j c)

/-- The first `n` chunks of the result done; the chunks from `n` on untouched. -/
def Done (n : ℕ) : sProp 𝕄 := bigSep (finUpTo 32 n) fun j => Written d L x w j.val
def Todo (n : ℕ) : sProp 𝕄 := bigSep (finFrom 32 n) fun j => Raw d L j.val

theorem Done_succ {n : ℕ} (hn : n < 32) : (Done d L x w (n + 1) : sProp 𝕄) = iprop(Written d L x w n ∗ Done d L x w n) := by
  unfold Done; rw [bigSep_finUpTo_succ hn]
theorem Todo_succ {n : ℕ} (hn : n < 32) : (Todo d L n : sProp 𝕄) = iprop(Raw d L n ∗ Todo d L (n + 1)) := by
  unfold Todo; rw [bigSep_finFrom_succ hn]

/-- Delivered copies: the rows are free again, and the chunk is done. -/
theorem sent_split (b : Fin 2) (j : ℕ) :
    (four (fun c => Sent d L (oRow b c) (oP L j c) (Yc L x w j c)) : sProp 𝕄) ⊢ iprop(RowsFree d L b ∗ Written d L x w j) := by
  unfold four Sent RowsFree Written four
  iintro ⟨⟨R0, P0⟩, ⟨R1, P1⟩, ⟨R2, P2⟩, ⟨R3, P3⟩⟩
  isplitl [R0 R1 R2 R3]
  · isplitl [R0]; · iexists _; iexact R0
    isplitl [R1]; · iexists _; iexact R1
    isplitl [R2]; · iexists _; iexact R2
    iexists _; iexact R3
  isplitl [P0]; · iexact P0
  isplitl [P1]; · iexact P1
  isplitl [P2] <;> iassumption

variable (O : CellTallies nD τ sig (SparseCore.Cfg.HIx 1)) (W : Waits sig (SparseCore.Cfg.HIx 1))

/-- Before a slot's rows are written, the copies of its chunk before are waited for — from the second trip on. -/
theorem wp_retire (b : Fin 2) (sm : DmaSems sig S_) {t : ℕ} (ht : t < 16) {c : Prop} [Decidable c] (hc : c ↔ 1 ≤ t)
    {p : c → TProg F L α} {r : TProg F L α} {Q : α → sProp 𝕄}
    (hp : ∀ (h : c) (j : ℕ), iprop(MayWaits (thr d L) none O ∗ Sending d L sm (oRow b) (oP L j) (Yc L x w j) 4 ∗ Owed d L O W)
      ⊢ iprop((iprop(four (fun c => Sent d L (oRow b c) (oP L j c) (Yc L x w j c)) ∗ semVal (thr d L, SemLoc.dma sm.sem) 0 ∗ Owed d L O W)
            -∗ wp frame (wpE (defs₀ (F := F)) 𝒱₀ (thr d L) none) Set.univ r Q)
          -∗ wp frame (wpE (defs₀ (F := F)) 𝒱₀ (thr d L) none) Set.univ (p h) Q)) :
    iprop(MayWaits (thr d L) none O ∗ Out d L x w b sm t ∗ Owed d L O W ∗ Done d L x w (2 * t + b.val - 2))
      ⊢ (iprop((iprop(RowsFree d L b ∗ semVal (thr d L, SemLoc.dma sm.sem) 0 ∗ Owed d L O W ∗ Done d L x w (2 * t + b.val - 1))
            -∗ wp frame (wpE (defs₀ (F := F)) 𝒱₀ (thr d L) none) Set.univ r Q)
          -∗ wp frame (wpE (defs₀ (F := F)) 𝒱₀ (thr d L) none) Set.univ (if h : c then p h else r) Q) : sProp 𝕄) := by
  have hb := b.isLt
  cases t with
  | zero =>
    rw [dif_neg (fun h => by have := hc.mp h; omega), show 2 * 0 + b.val - 2 = 0 by omega, show 2 * 0 + b.val - 1 = 0 by omega]
    unfold Out
    iintro ⟨-, ⟨HR, Hv⟩, HO, HD⟩ Hk
    iapply Hk
    isplitl [HR]; · iexact HR
    isplitl [Hv]; · iexact Hv
    isplitl [HO] <;> iassumption
  | succ t =>
    have h : c := hc.mpr (by omega)
    rw [dif_pos h, show 2 * (t + 1) + b.val - 2 = 2 * t + b.val by omega, show 2 * (t + 1) + b.val - 1 = 2 * t + b.val + 1 by omega,
      Done_succ d L x w (show 2 * t + b.val < 32 by omega)]
    unfold Out
    iintro ⟨Hm, HS, HO, HD⟩ Hk
    iapply (hp h (2 * t + b.val)) $$ [Hm HS HO]
    · isplitl [Hm]; · iexact Hm
      isplitl [HS] <;> iassumption
    iintro ⟨HS, Hv, HO⟩
    ihave HS' := (sent_split d L x w b (2 * t + b.val)) $$ HS
    icases HS' with ⟨HR, HF⟩
    iapply Hk
    isplitl [HR]; · iexact HR
    isplitl [Hv]; · iexact Hv
    isplitl [HO]; · iexact HO
    isplitl [HF] <;> iassumption

end

end Cert.Proof.Sc
-- ==== Proof.Half.lean ====
/-
  The parts of one trip of the tile's outer loop: part 5 stages chunk `2 t` and computes its rows, part 6 sends three of
  them, part 7 sends the fourth, stages chunk `2 t + 1` and computes its rows, part 8 sends three of those; the trip's
  end sends the last.
-/
module

public import proofs.«01_k».proof.Proof.Chunk

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

section
variable (d : Dev nD) (L : grid0.Coords) (x : S8388608.Idx → Elt F .f32) (w : S4096.Idx → Elt F .i32)
variable (O : CellTallies nD τ sig (SparseCore.Cfg.HIx 1)) (W : Waits sig (SparseCore.Cfg.HIx 1))
variable (q0 q1 : PosShare TreeShare)

abbrev part5 (L : grid0.Coords) (a b c e f : BitVec 32) (t : Fin k0_t1_loop.trips) : TProg F L (Σ' (_ : BitVec 32) (_ : BitVec 32), BitVec 32) :=
  k0_part5 (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b c e f t
abbrev part6 (L : grid0.Coords) (a b : BitVec 32) (t : Fin k0_t1_loop.trips) (c e : BitVec 32) : TProg F L PUnit :=
  k0_part6 (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b t c e
abbrev part7 (L : grid0.Coords) (a b c : BitVec 32) (t : Fin k0_t1_loop.trips) (e : BitVec 32) : TProg F L (Σ' (_ : BitVec 32), BitVec 32) :=
  k0_part7 (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b c t e
abbrev part8 (L : grid0.Coords) (a b : BitVec 32) (t : Fin k0_t1_loop.trips) (c e : BitVec 32) : TProg F L PUnit :=
  k0_part8 (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b t c e

/-- The rows of chunk `j` staged in slot `b`, and its pieces of the result, still untouched. -/
def Ready (b : Fin 2) (j : ℕ) (c : Fin 4) : sProp 𝕄 :=
  iprop(owns (thr d L) (oRow b c) fullShare (Yc L x w j c) ∗ (∃ Z, owns (thr d L) (oP L j c) fullShare Z))

theorem ready_four (b : Fin 2) (j : ℕ) :
    iprop((four fun c => owns (thr d L) (oRow b c) fullShare (Yc L x w j c)) ∗ Raw d L j) ⊢ (four (Ready d L x w b j) : sProp 𝕄) := by
  unfold Raw four Ready
  iintro ⟨⟨R0, R1, R2, R3⟩, ⟨P0, P1, P2, P3⟩⟩
  isplitl [R0 P0]; · isplitl [R0] <;> iassumption
  isplitl [R1 P1]; · isplitl [R1] <;> iassumption
  isplitl [R2 P2]; · isplitl [R2] <;> iassumption
  isplitl [R3] <;> iassumption

/-- Part 5. -/
theorem wp_part5 (a1 a2 a3 a4 a5 : BitVec 32) (t : Fin k0_t1_loop.trips) {Q : (Σ' (_ : BitVec 32) (_ : BitVec 32), BitVec 32) → sProp 𝕄} :
    iprop(MayWaits (thr d L) none O ∗ Owed d L O W ∗ Tabs d L (Wc L w) ∗ In d L x 0 cc0_scratch6 q0 (2 * t.val) ∗ Slot d L x 1 cc0_scratch7 q1
        ∗ Out d L x w 0 cc0_scratch8 t.val ∗ Done d L x w (2 * t.val - 2))
      ⊢ (iprop((∀ r, iprop(Owed d L O W ∗ Tabs d L (Wc L w) ∗ Slot d L x 0 cc0_scratch6 q0 ∗ In d L x 1 cc0_scratch7 q1 (2 * t.val + 1)
            ∗ (four fun c => owns (thr d L) (oRow 0 c) fullShare (Yc L x w (2 * t.val) c)) ∗ semVal (thr d L, SemLoc.dma cc0_scratch8.sem) 0
            ∗ Done d L x w (2 * t.val - 1)) -∗ Q r)
          -∗ wp frame (wpE (defs₀ (F := F)) 𝒱₀ (thr d L) none) Set.univ (part5 (F := F) L a1 a2 a3 a4 a5 t) Q) : sProp 𝕄) := by
  have ht := lt16 t
  simp only [part5, k0_part5_eq_skeleton, k0_part5_skel, Prog.lift, Prog.bind_op, Prog.bind_ret, Prog.pure_eq_ret, dif_pos (cond1_all t)]
  unfold In Slot
  iintro ⟨#Hm, HO, HT, HF, ⟨Hs, Hr, Hv⟩, HU, HD⟩ Hk
  iapply (wp_fetch d L (xP L (2 * t.val + 1)) (xRow 1) cc0_scratch7 q1 x (by decide) (xS_off3 L t _)) $$ [Hs Hr Hv]
  · isplitl [Hs]; · iexact Hs
    isplitl [Hr] <;> iassumption
  iintro HF1
  iapply (wp_fetched d L (xP L (2 * t.val)) (xRow 0) cc0_scratch6 q0 x O W) $$ [HF HO]
  · isplitr; · iexact Hm
    isplitl [HF] <;> iassumption
  iintro ⟨Hs, Hx, Hv, HO⟩
  iapply (wp_retire d L x w O W 0 cc0_scratch8 ht (cond2_iff t) ?_) $$ [HU HO HD]
  · intro h j
    simp only [k0_part1_eq_skeleton, k0_part1_skel, Prog.lift, Prog.bind_op, Prog.bind_ret, Prog.pure_eq_ret]
    refine wp_drain d L cc0_scratch8 (oRow 0) (oP L j) (Yc L x w j) O W (p := fun _ => _) ?_ ?_ ?_ ?_ <;> rfl
  · isplitr; · iexact Hm
    isplitl [HU]; · iexact HU
    isplitl [HO] <;> iassumption
  iintro ⟨HR, Hv8, HO, HD⟩
  rw [wp_bind]
  iapply (wp_rows d L 0 (Xc L x (2 * t.val)) (Wc L w) k0_t2_loop k0_t2_ok _ trips2 (wp_body2 d L a1 a2 a3 a4 a5 t _ _)) $$ [Hx HT HR]
  · isplitl [Hx]; · iexact Hx
    isplitl [HT] <;> iassumption
  iintro ⟨Hx, HT, HR⟩
  rw [wp_ret]
  imodintro
  iapply Hk
  isplitl [HO]; · iexact HO
  isplitl [HT]; · iexact HT
  isplitl [Hs Hx Hv]
  · isplitl [Hs]; · iexact Hs
    isplitl [Hx]; · iexists _; iexact Hx
    iexact Hv
  isplitl [HF1]; · iexact HF1
  isplitl [HR]; · iexact HR
  isplitl [Hv8]; · iexact Hv8
  iexact HD

/-- Three of a chunk's four copies. -/
theorem wp_send3 {α : Type} (b : Fin 2) (sm : DmaSems sig S_) (j : ℕ) {m0 m1 m2 : Memref sig .scVector .vmem S8192 .f32}
    {n0 n1 n2 : Memref sig .scVector .hbm S8192 .f32} (em0 : m0 = oRow b 0) (em1 : m1 = oRow b 1) (em2 : m2 = oRow b 2)
    (en0 : n0 = oP L j 0) (en1 : n1 = oP L j 1) (en2 : n2 = oP L j 2)
    {h0 : m0.view.WordExact} {h1 : m1.view.WordExact} {h2 : m2.view.WordExact}
    {g0 : n0.view.WordExact} {g1 : n1.view.WordExact} {g2 : n2.view.WordExact}
    {k0 : DmaTarget.Typed (nD := nD) .vmem (.dma sm.sem) (DmaTarget.here (p := Proc.scVector (cV L) (jV L)) n0)}
    {k1 : DmaTarget.Typed (nD := nD) .vmem (.dma sm.sem) (DmaTarget.here (p := Proc.scVector (cV L) (jV L)) n1)}
    {k2 : DmaTarget.Typed (nD := nD) .vmem (.dma sm.sem) (DmaTarget.here (p := Proc.scVector (cV L) (jV L)) n2)}
    {p : PUnit → TProg F L α} {Q : α → sProp 𝕄} :
    iprop((four fun c => owns (thr d L) (oRow b c) fullShare (Yc L x w j c)) ∗ Raw d L j ∗ semVal (thr d L, SemLoc.dma sm.sem) 0)
      ⊢ (iprop((iprop(Ready d L x w b j 3 ∗ Sending d L sm (oRow b) (oP L j) (Yc L x w j) 3)
            -∗ wp frame (wpE (defs₀ (F := F)) 𝒱₀ (thr d L) none) Set.univ (p ⟨⟩) Q)
          -∗ wp frame (wpE (defs₀ (F := F)) 𝒱₀ (thr d L) none) Set.univ
              (.op (.enqueueDma m0 (.here n0) (.dma sm.sem) h0 g0 k0) fun _ => .op (.enqueueDma m1 (.here n1) (.dma sm.sem) h1 g1 k1) fun _ =>
               .op (.enqueueDma m2 (.here n2) (.dma sm.sem) h2 g2 k2) p) Q) : sProp 𝕄) := by
  iintro ⟨HR, HP, Hv⟩ Hk
  ihave H := (ready_four d L x w b j) $$ [HR HP]
  · isplitl [HR] <;> iassumption
  unfold four Ready
  icases H with ⟨⟨R0, P0⟩, ⟨R1, P1⟩, ⟨R2, P2⟩, H3⟩
  imod (Sending_zero d L sm (oRow b) (oP L j) (Yc L x w j)) $$ Hv with HS
  iapply (wp_send d L sm (oRow b) (oP L j) (Yc L x w j) (fun _ => rfl) 0 (by omega) em0 en0) $$ [R0 P0 HS]
  · isplitl [R0]; · iexact R0
    isplitl [P0]; · iexact P0
    iexact HS
  iintro HS
  iapply (wp_send d L sm (oRow b) (oP L j) (Yc L x w j) (fun _ => rfl) 1 (by omega) em1 en1) $$ [R1 P1 HS]
  · isplitl [R1]; · iexact R1
    isplitl [P1]; · iexact P1
    iexact HS
  iintro HS
  iapply (wp_send d L sm (oRow b) (oP L j) (Yc L x w j) (fun _ => rfl) 2 (by omega) em2 en2) $$ [R2 P2 HS]
  · isplitl [R2]; · iexact R2
    isplitl [P2]; · iexact P2
    iexact HS
  iintro HS
  iapply Hk
  isplitl [H3] <;> iassumption

/-- The fourth. -/
theorem wp_send_last {α : Type} (b : Fin 2) (sm : DmaSems sig S_) (j : ℕ) {m : Memref sig .scVector .vmem S8192 .f32}
    {n : Memref sig .scVector .hbm S8192 .f32} (em : m = oRow b 3) (en : n = oP L j 3)
    {h : m.view.WordExact} {g : n.view.WordExact}
    {k : DmaTarget.Typed (nD := nD) .vmem (.dma sm.sem) (DmaTarget.here (p := Proc.scVector (cV L) (jV L)) n)}
    {p : PUnit → TProg F L α} {Q : α → sProp 𝕄} :
    iprop(Ready d L x w b j 3 ∗ Sending d L sm (oRow b) (oP L j) (Yc L x w j) 3)
      ⊢ (iprop((Sending d L sm (oRow b) (oP L j) (Yc L x w j) 4 -∗ wp frame (wpE (defs₀ (F := F)) 𝒱₀ (thr d L) none) Set.univ (p ⟨⟩) Q)
          -∗ wp frame (wpE (defs₀ (F := F)) 𝒱₀ (thr d L) none) Set.univ (.op (.enqueueDma m (.here n) (.dma sm.sem) h g k) p) Q) : sProp 𝕄) := by
  unfold Ready
  iintro ⟨⟨R, P⟩, HS⟩ Hk
  iapply (wp_send d L sm (oRow b) (oP L j) (Yc L x w j) (fun _ => rfl) 3 (by omega) em en) $$ [R P HS]
  · isplitl [R]; · iexact R
    isplitl [P]; · iexact P
    iexact HS
  iexact Hk

/-- Part 6. -/
theorem wp_part6 (a1 a2 a3 a4 : BitVec 32) (t : Fin k0_t1_loop.trips) {Q : PUnit → sProp 𝕄} :
    iprop((four fun c => owns (thr d L) (oRow 0 c) fullShare (Yc L x w (2 * t.val) c)) ∗ Raw d L (2 * t.val)
        ∗ semVal (thr d L, SemLoc.dma cc0_scratch8.sem) 0)
      ⊢ (iprop((iprop(Ready d L x w 0 (2 * t.val) 3 ∗ Sending d L cc0_scratch8 (oRow 0) (oP L (2 * t.val)) (Yc L x w (2 * t.val)) 3) -∗ Q ⟨⟩)
          -∗ wp frame (wpE (defs₀ (F := F)) 𝒱₀ (thr d L) none) Set.univ (part6 (F := F) L a1 a2 t a3 a4) Q) : sProp 𝕄) := by
  simp only [part6, k0_part6_eq_skeleton, k0_part6_skel, Prog.lift, Prog.bind_op, Prog.bind_ret, Prog.pure_eq_ret]
  iintro H Hk
  iapply (wp_send3 d L x w 0 cc0_scratch8 (2 * t.val) rfl rfl rfl (oS_off11 L t 0 0 _) (oS_off11 L t 0 1 _) (oS_off11 L t 0 2 _)) $$ H
  iintro H
  rw [wp_ret]
  imodintro
  iapply Hk $$ H

/-- Part 8. -/
theorem wp_part8 (a1 a2 a3 a4 : BitVec 32) (t : Fin k0_t1_loop.trips) {Q : PUnit → sProp 𝕄} :
    iprop((four fun c => owns (thr d L) (oRow 1 c) fullShare (Yc L x w (2 * t.val + 1) c)) ∗ Raw d L (2 * t.val + 1)
        ∗ semVal (thr d L, SemLoc.dma cc0_scratch9.sem) 0)
      ⊢ (iprop((iprop(Ready d L x w 1 (2 * t.val + 1) 3
            ∗ Sending d L cc0_scratch9 (oRow 1) (oP L (2 * t.val + 1)) (Yc L x w (2 * t.val + 1)) 3) -∗ Q ⟨⟩)
          -∗ wp frame (wpE (defs₀ (F := F)) 𝒱₀ (thr d L) none) Set.univ (part8 (F := F) L a1 a2 t a3 a4) Q) : sProp 𝕄) := by
  simp only [part8, k0_part8_eq_skeleton, k0_part8_skel, Prog.lift, Prog.bind_op, Prog.bind_ret, Prog.pure_eq_ret]
  iintro H Hk
  iapply (wp_send3 d L x w 1 cc0_scratch9 (2 * t.val + 1) rfl rfl rfl (oS_off11 L t 1 0 _) (oS_off11 L t 1 1 _) (oS_off11 L t 1 2 _)) $$ H
  iintro H
  rw [wp_ret]
  imodintro
  iapply Hk $$ H

/-- The first slot's input at the head of trip `t`: fetching chunk `2 t`, or, past the last trip, at rest. -/
def InAt (t : ℕ) : sProp 𝕄 := if t < 16 then In d L x 0 cc0_scratch6 q0 (2 * t) else Slot d L x 0 cc0_scratch6 q0

/-- The first slot's next fetch, but at the last trip. -/
theorem wp_next {α : Type} (t : Fin k0_t1_loop.trips) {dst : Memref sig .scVector .vmem S8192 .f32} (hd : dst = xRow 0)
    {hsrc : ∀ h : k0_cond3 t = 1#1, (xS (k0_off12 L t) (k0_off12_inb L t h)).view.WordExact} {hdst : dst.view.WordExact}
    {hsem : DmaTarget.Typed (nD := nD) .hbm (.dma cc0_scratch6.sem) (DmaTarget.here (p := Proc.scVector (cV L) (jV L)) dst)}
    {r : TProg F L α} {Q : α → sProp 𝕄} :
    Slot d L x 0 cc0_scratch6 q0
      ⊢ (iprop((InAt d L x q0 (t.val + 1) -∗ wp frame (wpE (defs₀ (F := F)) 𝒱₀ (thr d L) none) Set.univ r Q)
          -∗ wp frame (wpE (defs₀ (F := F)) 𝒱₀ (thr d L) none) Set.univ
              (if h : k0_cond3 t = 1#1 then
                .op (.enqueueDma (xS (k0_off12 L t) (k0_off12_inb L t h)) (.here dst) (.dma cc0_scratch6.sem) (hsrc h) hdst hsem) fun _ => r
               else r) Q) : sProp 𝕄) := by
  subst hd
  unfold InAt
  by_cases h : k0_cond3 t = 1#1
  · rw [dif_pos h, if_pos (show t.val + 1 < 16 by have := (cond3_iff t).mp h; omega)]
    unfold Slot In
    iintro H Hk
    iapply (wp_fetch d L (xP L (2 * (t.val + 1))) (xRow 0) cc0_scratch6 q0 x (by decide) (xS_off12 L t h _)) $$ H
    iexact Hk
  · rw [dif_neg h, if_neg (show ¬ t.val + 1 < 16 by intro h'; exact h ((cond3_iff t).mpr (by omega)))]
    iintro H Hk
    iapply Hk $$ H

/-- Part 7. -/
theorem wp_part7 (a1 a2 a3 a4 : BitVec 32) (t : Fin k0_t1_loop.trips) {Q : (Σ' (_ : BitVec 32), BitVec 32) → sProp 𝕄} :
    iprop(MayWaits (thr d L) none O ∗ Owed d L O W ∗ Tabs d L (Wc L w) ∗ Slot d L x 0 cc0_scratch6 q0 ∗ In d L x 1 cc0_scratch7 q1 (2 * t.val + 1)
        ∗ (Ready d L x w 0 (2 * t.val) 3 ∗ Sending d L cc0_scratch8 (oRow 0) (oP L (2 * t.val)) (Yc L x w (2 * t.val)) 3)
        ∗ Out d L x w 1 cc0_scratch9 t.val ∗ Done d L x w (2 * t.val - 1))
      ⊢ (iprop((∀ r, iprop(Owed d L O W ∗ Tabs d L (Wc L w) ∗ InAt d L x q0 (t.val + 1) ∗ Slot d L x 1 cc0_scratch7 q1
            ∗ Out d L x w 0 cc0_scratch8 (t.val + 1)
            ∗ (four fun c => owns (thr d L) (oRow 1 c) fullShare (Yc L x w (2 * t.val + 1) c)) ∗ semVal (thr d L, SemLoc.dma cc0_scratch9.sem) 0
            ∗ Done d L x w (2 * t.val)) -∗ Q r)
          -∗ wp frame (wpE (defs₀ (F := F)) 𝒱₀ (thr d L) none) Set.univ (part7 (F := F) L a1 a2 a3 t a4) Q) : sProp 𝕄) := by
  have ht := lt16 t
  simp only [part7, k0_part7_eq_skeleton, k0_part7_skel, Prog.lift, Prog.bind_op, Prog.bind_ret, Prog.pure_eq_ret]
  iintro ⟨#Hm, HO, HT, HS0, HF, HS, HU, HD⟩ Hk
  iapply (wp_send_last d L x w 0 cc0_scratch8 (2 * t.val) rfl (oS_off11 L t 0 3 _)) $$ HS
  iintro HS
  iapply (wp_next d L x q0 t rfl) $$ HS0
  iintro HI
  unfold In
  iapply (wp_fetched d L (xP L (2 * t.val + 1)) (xRow 1) cc0_scratch7 q1 x O W) $$ [HF HO]
  · isplitr; · iexact Hm
    isplitl [HF] <;> iassumption
  iintro ⟨Hs, Hx, Hv, HO⟩
  iapply (wp_retire d L x w O W 1 cc0_scratch9 ht (cond4_iff t) ?_) $$ [HU HO HD]
  · intro h j
    simp only [k0_part3_eq_skeleton, k0_part3_skel, Prog.lift, Prog.bind_op, Prog.bind_ret, Prog.pure_eq_ret]
    refine wp_drain d L cc0_scratch9 (oRow 1) (oP L j) (Yc L x w j) O W (p := fun _ => _) ?_ ?_ ?_ ?_ <;> rfl
  · isplitr; · iexact Hm
    isplitl [HU]; · iexact HU
    isplitl [HO]; · iexact HO
    iexact HD
  iintro ⟨HR, Hv9, HO, HD⟩
  rw [wp_bind]
  iapply (wp_rows d L 1 (Xc L x (2 * t.val + 1)) (Wc L w) k0_t3_loop k0_t3_ok _ trips3 (wp_body3 d L a1 a2 a3 a4 t _ _)) $$ [Hx HT HR]
  · isplitl [Hx]; · iexact Hx
    isplitl [HT] <;> iassumption
  iintro ⟨Hx, HT, HR⟩
  rw [wp_ret]
  imodintro
  iapply Hk
  isplitl [HO]; · iexact HO
  isplitl [HT]; · iexact HT
  isplitl [HI]; · iexact HI
  isplitl [Hs Hx Hv]
  · unfold Slot
    isplitl [Hs]; · iexact Hs
    isplitl [Hx]; · iexists _; iexact Hx
    iexact Hv
  isplitl [HS]; · unfold Out; iexact HS
  isplitl [HR]; · iexact HR
  isplitl [Hv9]; · iexact Hv9
  iexact HD

end

end Cert.Proof.Sc
-- ==== Proof.Body.lean ====
/-
  One tile's run: the four table rows fetched, sixteen trips of the outer loop at one invariant, and the copies of the
  last two chunks waited for. Afterwards every piece of the tile's result holds its value.
-/
module

public import proofs.«01_k».proof.Proof.Half

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

section
variable (d : Dev nD) (L : grid0.Coords) (x : S8388608.Idx → Elt F .f32) (w : S4096.Idx → Elt F .i32)
variable (O : CellTallies nD τ sig (SparseCore.Cfg.HIx 1)) (W : Waits sig (SparseCore.Cfg.HIx 1))
variable (q0 q1 q : PosShare TreeShare)

/-- The tile's state at the head of trip `t`. -/
def Inv (t : ℕ) : sProp 𝕄 :=
  iprop(MayWaits (thr d L) none O ∗ Owed d L O W ∗ Tabs d L (Wc L w) ∗ InAt d L x q0 t ∗ Slot d L x 1 cc0_scratch7 q1
    ∗ Out d L x w 0 cc0_scratch8 t ∗ Out d L x w 1 cc0_scratch9 t ∗ Done d L x w (2 * t - 2) ∗ Todo d L (2 * t))

abbrev body1 (L : grid0.Coords) (a b c : BitVec 32) : Fin k0_t1_loop.trips → BitVec 32 → TProg F L (BitVec 32) :=
  k0_t1_body (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3 a b c

/-- One trip carries the invariant on. -/
theorem wp_body1 (a b c : BitVec 32) (t : Fin k0_t1_loop.trips) (u : BitVec 32) :
    (Inv d L x w O W q0 q1 t.val : sProp 𝕄)
      ⊢ wp frame (wpE (defs₀ (F := F)) 𝒱₀ (thr d L) none) Set.univ (body1 (F := F) L a b c t u) fun _ => Inv d L x w O W q0 q1 (t.val + 1) := by
  have ht := lt16 t
  simp only [body1, k0_t1_body, Prog.lift, Prog.bind_op, Prog.bind_ret, Prog.pure_eq_ret]
  unfold Inv
  rw [Todo_succ d L (show 2 * t.val < 32 by omega), Todo_succ d L (show 2 * t.val + 1 < 32 by omega),
    show InAt d L x q0 t.val = In d L x 0 cc0_scratch6 q0 (2 * t.val) from if_pos ht]
  iintro ⟨#Hm, HO, HT, HF, HS1, HU, HV, HD, ⟨P0, P1, HG⟩⟩
  rw [wp_bind]
  iapply (wp_part5 d L x w O W q0 q1 _ _ _ _ _ t) $$ [HO HT HF HS1 HU HD]
  · isplitr; · iexact Hm
    isplitl [HO]; · iexact HO
    isplitl [HT]; · iexact HT
    isplitl [HF]; · iexact HF
    isplitl [HS1]; · iexact HS1
    isplitl [HU]; · iexact HU
    iexact HD
  iintro %r ⟨HO, HT, HS0, HF, HR, Hv8, HD⟩
  rw [wp_bind]
  iapply (wp_part6 d L x w _ _ _ _ t) $$ [HR P0 Hv8]
  · isplitl [HR]; · iexact HR
    isplitl [P0]; · iexact P0
    iexact Hv8
  iintro HS
  rw [wp_bind]
  iapply (wp_part7 d L x w O W q0 q1 _ _ _ _ t) $$ [HO HT HS0 HF HS HV HD]
  · isplitr; · iexact Hm
    isplitl [HO]; · iexact HO
    isplitl [HT]; · iexact HT
    isplitl [HS0]; · iexact HS0
    isplitl [HF]; · iexact HF
    isplitl [HS]; · iexact HS
    isplitl [HV]; · iexact HV
    iexact HD
  iintro %r' ⟨HO, HT, HI, HS1, HU, HR, Hv9, HD⟩
  rw [wp_bind]
  iapply (wp_part8 d L x w _ _ _ _ t) $$ [HR P1 Hv9]
  · isplitl [HR]; · iexact HR
    isplitl [P1]; · iexact P1
    iexact Hv9
  iintro HS
  iapply (wp_send_last d L x w 1 cc0_scratch9 (2 * t.val + 1) rfl (oS_off11 L t 1 3 _)) $$ HS
  iintro HS
  rw [wp_ret]
  imodintro
  isplitr; · iexact Hm
  isplitl [HO]; · iexact HO
  isplitl [HT]; · iexact HT
  isplitl [HI]; · iexact HI
  isplitl [HS1]; · iexact HS1
  isplitl [HU]; · iexact HU
  isplitl [HS]; · unfold Out; iexact HS
  isplitl [HD]; · iexact HD
  iexact HG

theorem inAt_end : (InAt d L x q0 16 : sProp 𝕄) ⊢ Slot d L x 0 cc0_scratch6 q0 := by
  rw [show InAt d L x q0 16 = Slot d L x 0 cc0_scratch6 q0 from if_neg (by decide)]

/-- The table buffers, at any contents. -/
def TabsFree : sProp 𝕄 :=
  iprop((∃ Z, owns (thr d L) t0 fullShare Z) ∗ (∃ Z, owns (thr d L) t1 fullShare Z) ∗ (∃ Z, owns (thr d L) t2 fullShare Z)
    ∗ (∃ Z, owns (thr d L) t3 fullShare Z))

/-- The semaphores of the table fetches, at zero. -/
def TabSems : sProp 𝕄 :=
  iprop(semVal (thr d L, SemLoc.dma cc0_scoped0.sem) 0 ∗ semVal (thr d L, SemLoc.dma cc0_scoped1.sem) 0
    ∗ semVal (thr d L, SemLoc.dma cc0_scoped2.sem) 0 ∗ semVal (thr d L, SemLoc.dma cc0_scoped3.sem) 0)

/-- What a tile holds besides its output chunks, at the start and again at the end. -/
def Kit : sProp 𝕄 :=
  iprop(Slot d L x 0 cc0_scratch6 q0 ∗ Slot d L x 1 cc0_scratch7 q1 ∗ (wM.view.loc (thr d L) ↦{q} w) ∗ TabsFree d L ∗ TabSems d L
    ∗ (RowsFree d L 0 ∗ semVal (thr d L, SemLoc.dma cc0_scratch8.sem) 0) ∗ (RowsFree d L 1 ∗ semVal (thr d L, SemLoc.dma cc0_scratch9.sem) 0))

abbrev tileProg (L : grid0.Coords) : TProg F L PUnit :=
  cc0_body (F := F) L xM (Memref.isWhole_whole _) wM (Memref.isWhole_whole _) oM (Memref.isWhole_whole _) t0 (Memref.isWhole_whole _)
    t1 (Memref.isWhole_whole _) t2 (Memref.isWhole_whole _) t3 (Memref.isWhole_whole _) xB (Memref.isWhole_whole _) oB (Memref.isWhole_whole _)
    cc0_scratch6 cc0_scratch7 cc0_scratch8 cc0_scratch9 cc0_scoped0 cc0_scoped1 cc0_scoped2 cc0_scoped3

/-- The tile's whole run. -/
theorem wp_tile {Q : PUnit → sProp 𝕄} :
    iprop(MayWaits (thr d L) none O ∗ Owed d L O W ∗ Kit d L x w q0 q1 q ∗ Todo d L 0)
      ⊢ (iprop((iprop(Owed d L O W ∗ Kit d L x w q0 q1 q ∗ Done d L x w 32) -∗ Q ⟨⟩)
          -∗ wp frame (wpE (defs₀ (F := F)) 𝒱₀ (thr d L) none) Set.univ (tileProg (F := F) L) Q) : sProp 𝕄) := by
  simp only [tileProg, cc0_body_eq_skeleton, cc0_body_skel, k0_part9_eq_skeleton, k0_part9_skel, k0_part10_eq_skeleton, k0_part10_skel,
    k0_part11_eq_skeleton, k0_part11_skel, k0_part12_eq_skeleton, k0_part12_skel,
    Prog.lift, Prog.bind_op, Prog.bind_ret, Prog.pure_eq_ret]
  unfold Kit TabsFree TabSems
  iintro ⟨#Hm, HO, ⟨HS0, HS1, Hw, ⟨T0, T1, T2, T3⟩, ⟨V0, V1, V2, V3⟩, ⟨R0, Hv8⟩, ⟨R1, Hv9⟩⟩, HG⟩ Hk
  iapply (wp_fetch d L (wP L 0) t0 cc0_scoped0 q w (by decide) (wS_off1 L 0 _)) $$ [Hw T0 V0]
  · isplitl [Hw]; · iexact Hw
    isplitl [T0] <;> iassumption
  iintro HF
  iapply (wp_fetched d L (wP L 0) t0 cc0_scoped0 q w O W) $$ [HF HO]
  · isplitr; · iexact Hm
    isplitl [HF] <;> iassumption
  iintro ⟨Hw, T0, V0, HO⟩
  iapply (wp_fetch d L (wP L 1) t1 cc0_scoped1 q w (by decide) (wS_off1 L 1 _)) $$ [Hw T1 V1]
  · isplitl [Hw]; · iexact Hw
    isplitl [T1] <;> iassumption
  iintro HF
  iapply (wp_fetched d L (wP L 1) t1 cc0_scoped1 q w O W) $$ [HF HO]
  · isplitr; · iexact Hm
    isplitl [HF] <;> iassumption
  iintro ⟨Hw, T1, V1, HO⟩
  iapply (wp_fetch d L (wP L 2) t2 cc0_scoped2 q w (by decide) (wS_off1 L 2 _)) $$ [Hw T2 V2]
  · isplitl [Hw]; · iexact Hw
    isplitl [T2] <;> iassumption
  iintro HF
  iapply (wp_fetched d L (wP L 2) t2 cc0_scoped2 q w O W) $$ [HF HO]
  · isplitr; · iexact Hm
    isplitl [HF] <;> iassumption
  iintro ⟨Hw, T2, V2, HO⟩
  iapply (wp_fetch d L (wP L 3) t3 cc0_scoped3 q w (by decide) (wS_off1 L 3 _)) $$ [Hw T3 V3]
  · isplitl [Hw]; · iexact Hw
    isplitl [T3] <;> iassumption
  iintro HF
  iapply (wp_fetched d L (wP L 3) t3 cc0_scoped3 q w O W) $$ [HF HO]
  · isplitr; · iexact Hm
    isplitl [HF] <;> iassumption
  iintro ⟨Hw, T3, V3, HO⟩
  ihave HS0' := (show Slot d L x 0 cc0_scratch6 q0 ⊢ (iprop((xM.view.loc (thr d L) ↦{q0} x) ∗ (∃ Z, owns (thr d L) (xRow 0) fullShare Z)
    ∗ semVal (thr d L, SemLoc.dma cc0_scratch6.sem) 0) : sProp 𝕄) from .rfl) $$ HS0
  iapply (wp_fetch d L (xP L 0) (xRow 0) cc0_scratch6 q0 x (by decide) (xS_off2 L _)) $$ HS0'
  iintro HI
  simp only [wp_bind]
  iapply (Scf.wp_for frame (wpE (defs₀ (F := F)) 𝒱₀ (thr d L) none) Set.univ k0_t1_loop.lb k0_t1_loop.ub k0_t1_loop.st k0_t1_ok 0#32 _
    (fun t _ => Inv d L x w O W q0 q1 t) (wp_body1 d L x w O W q0 q1 _ _ _))
  isplitl [HO T0 T1 T2 T3 HI HS1 R0 Hv8 R1 Hv9 HG]
  · unfold Inv Tabs Out
    isplitr; · iexact Hm
    isplitl [HO]; · iexact HO
    isplitl [T0 T1 T2 T3]
    · isplitl [T0]; · iexact T0
      isplitl [T1]; · iexact T1
      isplitl [T2]; · iexact T2
      iexact T3
    isplitl [HI]
    · rw [show InAt d L x q0 0 = In d L x 0 cc0_scratch6 q0 (2 * 0) from if_pos (by decide)]
      unfold In; iexact HI
    isplitl [HS1]; · iexact HS1
    isplitl [R0 Hv8]; · isplitl [R0] <;> iassumption
    isplitl [R1 Hv9]; · isplitl [R1] <;> iassumption
    isplitr
    · unfold Done; rw [show 2 * 0 - 2 = 0 from rfl, bigSep_finUpTo_zero]; iempintro
    iexact HG
  iintro %u H
  rw [show Scf.trips k0_t1_loop.lb k0_t1_loop.ub k0_t1_loop.st = 16 from trips1]
  unfold Inv Tabs Out
  icases H with ⟨-, HO, ⟨T0, T1, T2, T3⟩, HI, HS1, HU, HV, HD, -⟩
  rw [wp_ret]
  imodintro
  iapply (wp_drain d L cc0_scratch8 (oRow 0) (oP L (2 * 15 + (0 : Fin 2).val)) (Yc L x w (2 * 15 + (0 : Fin 2).val)) O W (p := fun _ => _) rfl rfl rfl rfl) $$ [HU HO]
  · isplitr; · iexact Hm
    isplitl [HU] <;> iassumption
  iintro ⟨HU, Hv8, HO⟩
  iapply (wp_drain d L cc0_scratch9 (oRow 1) (oP L (2 * 15 + (1 : Fin 2).val)) (Yc L x w (2 * 15 + (1 : Fin 2).val)) O W (p := fun _ => _) rfl rfl rfl rfl) $$ [HV HO]
  · isplitr; · iexact Hm
    isplitl [HV] <;> iassumption
  iintro ⟨HV, Hv9, HO⟩
  ihave HU' := (sent_split d L x w 0 30) $$ HU
  ihave HV' := (sent_split d L x w 1 31) $$ HV
  icases HU' with ⟨R0, F0⟩
  icases HV' with ⟨R1, F1⟩
  rw [wp_ret]
  imodintro
  iapply Hk
  isplitl [HO]; · iexact HO
  isplitr [HD F0 F1]
  · isplitl [HI]
    · iapply (inAt_end d L x q0) $$ HI
    isplitl [HS1]; · iexact HS1
    isplitl [Hw]; · iexact Hw
    isplitl [T0 T1 T2 T3]
    · isplitl [T0]; · iexists _; iexact T0
      isplitl [T1]; · iexists _; iexact T1
      isplitl [T2]; · iexists _; iexact T2
      iexists _; iexact T3
    isplitl [V0 V1 V2 V3]
    · isplitl [V0]; · iexact V0
      isplitl [V1]; · iexact V1
      isplitl [V2] <;> iassumption
    isplitl [R0 Hv8]; · isplitl [R0] <;> iassumption
    isplitl [R1] <;> iassumption
  rw [Done_succ d L x w (show 31 < 32 by decide), Done_succ d L x w (show 30 < 32 by decide)]
  isplitl [F1]; · iexact F1
  isplitl [F0]; · iexact F0
  iexact HD

end

end Cert.Proof.Sc
-- ==== Proof.Cover.lean ====
/-
  The result whole. `G` is every element of the flat result; the pieces of all the tiles — by SparseCore, subcore, chunk
  and channel — cover the result without overlap, and a tile's chunks, written, hold `G`.
-/
module

public import proofs.«01_k».proof.Proof.Body

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

/-! ## The result -/

theorem image_lt (i : S33554432.Idx) : (i 0).val / 8388608 * 2097152 + (i 0).val % 2097152 < 8388608 := by
  have : (i 0).val < 33554432 := (i 0).isLt
  omega
theorem word_lt (i : S33554432.Idx) {c : ℕ} (hc : c < 256) : (i 0).val / 2097152 * 256 + c < 4096 := by
  have : (i 0).val < 33554432 := (i 0).isLt
  omega

/-- The element of the image that element `i` of the result is of. -/
def srcIx (i : S33554432.Idx) : S8388608.Idx := ix1 ⟨_, image_lt i⟩
/-- Word `c` of the table element `i` of the result goes through. -/
def wordIx (i : S33554432.Idx) (c : ℕ) (hc : c < 256) : S4096.Idx := ix1 ⟨_, word_lt i hc⟩

/-- The flat result. -/
def G (x : S8388608.Idx → Elt F .f32) (w : S4096.Idx → Elt F .i32) : S33554432.Idx → Elt F .f32 := fun i =>
  lin (F := F) (x (srcIx i)) (w (wordIx i (cell (F := F) (x (srcIx i))).toNat ((cell_lt _).trans (by decide))))

/-! ## Whose piece an element is in -/

def tileOf (i : S33554432.Idx) : ℕ := (i 0).val / 8388608 * 8 + (i 0).val % 2097152 / 262144
def coreOf (i : S33554432.Idx) : Fin 2 := ⟨tileOf i % 2, by omega⟩
def subOf (i : S33554432.Idx) : Fin 16 := ⟨tileOf i / 2, by
  have : (i 0).val < 33554432 := (i 0).isLt
  unfold tileOf; omega⟩
def chunkOf (i : S33554432.Idx) : Fin 32 := ⟨(i 0).val % 262144 / 8192, by omega⟩
def chanOf (i : S33554432.Idx) : Fin 4 := ⟨(i 0).val / 2097152 % 4, by omega⟩

theorem oP_emb (L : grid0.Coords) (j : Fin 32) (c : Fin 4) (k : S8192.Idx) : ((oP L j.val c).view.emb k 0).val = oo L c.val j.val + (k 0).val := by
  show oo L c.val (j.val % 32) + 1 * (k 0).val = _
  rw [Nat.mod_eq_of_lt j.isLt]; omega

theorem mem_piece (L : grid0.Coords) (j : Fin 32) (c : Fin 4) (i : S33554432.Idx) :
    i ∈ (oP L j.val c).view.set ↔ ((coreOf i).val = (L 0).val ∧ (subOf i).val = (L 1).val) ∧ chunkOf i = j ∧ chanOf i = c := by
  have h0 : (L 0).val < 2 := (L 0).isLt
  have h1 : (L 1).val < 16 := (L 1).isLt
  have hi : (i 0).val < 33554432 := (i 0).isLt
  have hj := j.isLt
  have hc := c.isLt
  rw [View.set, Finset.mem_map]
  constructor
  · rintro ⟨k, -, rfl⟩
    have hk : (k 0).val < 8192 := (k 0).isLt
    have e := oP_emb L j c k
    unfold oo wid at e
    refine ⟨⟨?_, ?_⟩, Fin.ext ?_, Fin.ext ?_⟩
    · show tileOf _ % 2 = _
      unfold tileOf; rw [e]; omega
    · show tileOf _ / 2 = _
      unfold tileOf; rw [e]; omega
    · show _ % 262144 / 8192 = _
      rw [e]; omega
    · show _ / 2097152 % 4 = _
      rw [e]; omega
  · rintro ⟨⟨e0, e1⟩, rfl, rfl⟩
    replace e0 : tileOf i % 2 = (L 0).val := e0
    replace e1 : tileOf i / 2 = (L 1).val := e1
    refine ⟨ix1 ⟨(i 0).val % 8192, Nat.mod_lt _ (by decide)⟩, Finset.mem_univ _, funext fun a => Fin.ext ?_⟩
    obtain rfl : a = 0 := Subsingleton.elim _ _
    refine (oP_emb L (chunkOf i) (chanOf i) _).trans ?_
    have ew : wid L = tileOf i := by unfold wid; omega
    show (wid L / 8 * 4 + (i 0).val / 2097152 % 4) * 2097152 + wid L % 8 * 262144 + (i 0).val % 262144 / 8192 * 8192 + (i 0).val % 8192 = (i 0).val
    rw [ew]; unfold tileOf; omega

/-- A chunk's piece holds `G`. -/
theorem piece_read (L : grid0.Coords) (x : S8388608.Idx → Elt F .f32) (w : S4096.Idx → Elt F .i32) (j : Fin 32) (c : Fin 4) :
    (oP L j.val c).view.read (Elt F) (G x w) = Yc L x w j.val c := by
  have h0 : (L 0).val < 2 := (L 0).isLt
  have h1 : (L 1).val < 16 := (L 1).isLt
  have hc := c.isLt
  have hj := j.isLt
  funext k
  have hk : (k 0).val < 8192 := (k 0).isLt
  have e := oP_emb L j c k
  have ex : srcIx ((oP L j.val c).view.emb k) = (xP L j.val).view.emb k := by
    funext a; apply Fin.ext
    obtain rfl : a = 0 := Subsingleton.elim _ _
    show ((oP L j.val c).view.emb k 0).val / 8388608 * 2097152 + ((oP L j.val c).view.emb k 0).val % 2097152 = xo L (j.val % 32) + 1 * (k 0).val
    rw [e, Nat.mod_eq_of_lt hj]
    unfold xo oo wid; omega
  have ew : ∀ (n : ℕ) (hn : n < 256), wordIx ((oP L j.val c).view.emb k) n hn = (wP L c).view.emb (ix1 ⟨n, hn⟩) := by
    intro n hn
    funext a; apply Fin.ext
    obtain rfl : a = 0 := Subsingleton.elim _ _
    show ((oP L j.val c).view.emb k 0).val / 2097152 * 256 + n = (wid L / 8 * 4 + c.val) * 256 + 1 * n
    rw [e]
    unfold oo wid; omega
  show lin (F := F) (x (srcIx _)) (w (wordIx _ _ _)) = lin (F := F) (x ((xP L j.val).view.emb k)) (w ((wP L c).view.emb _))
  simp only [ex, ew]
  rfl

/-! ## The result, dealt and gathered -/

abbrev xLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

/-- A set of elements of the result, dealt by where a function sends them. -/
theorem deal {I : Type} [Fintype I] [DecidableEq I] (d : Dev nD) (p : S33554432.Idx → I) (A : Finset S33554432.Idx) (f : Buf (Elt F) (oLoc d)) :
    (oLoc d ↦[A]{fullShare} f : sProp 𝕄) = bigSep Finset.univ fun i : I => oLoc d ↦[A.filter (fun a => p a = i)]{fullShare} f := by
  refine Eq.trans ?_ (pointsTo_biUnion (ℓ := oLoc d) (q := fullShare) (f := f) Finset.univ (fun i : I => (A.filter (fun a => p a = i) : Finset S33554432.Idx))
    (fun i _ i' _ h => Finset.disjoint_left.mpr fun a ha ha' => h ((Finset.mem_filter.mp ha).2.symm.trans (Finset.mem_filter.mp ha').2)))
  congr 1
  ext a
  simp

/-- The elements of a SparseCore, and of one of its subcores. -/
def coreSet (c : Fin 2) : Finset S33554432.Idx := Finset.univ.filter fun a => coreOf a = c
def tileSet (c : Fin 2) (s : Fin 16) : Finset S33554432.Idx := (coreSet c).filter fun a => subOf a = s

theorem piece_set (L : grid0.Coords) (j : Fin 32) (c : Fin 4) :
    (oP L j.val c).view.set = ((tileSet (L 0) (L 1)).filter fun a => chunkOf a = j).filter fun a => chanOf a = c := by
  ext i
  rw [mem_piece]
  simp only [tileSet, coreSet, Finset.mem_filter, Finset.mem_univ, true_and]
  constructor
  · rintro ⟨⟨a, b⟩, c, e⟩; exact ⟨⟨⟨Fin.ext a, Fin.ext b⟩, c⟩, e⟩
  · rintro ⟨⟨⟨a, b⟩, c⟩, e⟩; exact ⟨⟨congrArg Fin.val a, congrArg Fin.val b⟩, c, e⟩

/-- A tile's elements, chunk by chunk and channel by channel. -/
theorem tile_deal (d : Dev nD) (L : grid0.Coords) (f : Buf (Elt F) (oLoc d)) :
    (oLoc d ↦[tileSet (L 0) (L 1)]{fullShare} f : sProp 𝕄)
      = bigSep Finset.univ fun j : Fin 32 => four fun c => (oP L j.val c).view.loc (thr d L) ↦[(oP L j.val c).view.set]{fullShare} f := by
  rw [deal d chunkOf]
  refine bigSep_congr fun j _ => ?_
  rw [deal d chanOf, ← four_univ]
  refine bigSep_congr fun c _ => ?_
  exact congrArg (fun A : Finset S33554432.Idx => (oLoc d ↦[A]{fullShare} f : sProp 𝕄)) (piece_set L j c).symm

theorem piece_intro (d : Dev nD) (L : grid0.Coords) (j : Fin 32) (c : Fin 4) (f : Buf (Elt F) (oLoc d)) :
    ((oP L j.val c).view.loc (thr d L) ↦[(oP L j.val c).view.set]{fullShare} f : sProp 𝕄) ⊢ iprop(∃ Z, owns (thr d L) (oP L j.val c) fullShare Z) := by
  iintro H
  iexists _
  iapply (owns_intro (thr d L) (oP L j.val c) fullShare f) $$ H

theorem piece_elim (d : Dev nD) (L : grid0.Coords) (x : S8388608.Idx → Elt F .f32) (w : S4096.Idx → Elt F .i32) (j : Fin 32) (c : Fin 4) :
    (owns (thr d L) (oP L j.val c) fullShare (Yc L x w j.val c) : sProp 𝕄)
      ⊢ ((oP L j.val c).view.loc (thr d L) ↦[(oP L j.val c).view.set]{fullShare} (G x w : Buf (Elt F) (oLoc d))) := by
  iintro H
  ihave H' := (show owns (thr d L) (oP L j.val c) fullShare (Yc L x w j.val c) ⊢ (iprop(∃ f, ⌜(oP L j.val c).view.read (Elt F) f = Yc L x w j.val c⌝
      ∗ ((oP L j.val c).view.loc (thr d L) ↦[(oP L j.val c).view.set]{fullShare} f)) : sProp 𝕄) from .rfl) $$ H
  icases H' with ⟨%f, %hf, H⟩
  have e : ∀ i ∈ (oP L j.val c).view.set, f i = (G x w : Buf (Elt F) (oLoc d)) i := by
    intro i hi
    rw [View.set, Finset.mem_map] at hi
    obtain ⟨k, -, rfl⟩ := hi
    exact congrFun (hf.trans (piece_read L x w j c).symm) k
  iapply (Entails.of_eq (pointsTo_congr (ℓ := (oP L j.val c).view.loc (thr d L)) (q := fullShare) e)) $$ H

/-- At the start: a tile's elements are its chunks, untouched. -/
theorem todo_intro (d : Dev nD) (L : grid0.Coords) (f : Buf (Elt F) (oLoc d)) :
    (oLoc d ↦[tileSet (L 0) (L 1)]{fullShare} f : sProp 𝕄) ⊢ Todo d L 0 := by
  rw [tile_deal]
  unfold Todo
  rw [bigSep_finFrom_zero]
  refine bigSep_mono fun j _ => ?_
  unfold Raw
  rw [← four_univ, ← four_univ]
  exact bigSep_mono fun c _ => piece_intro d L j c f

/-- At the end: its chunks, done, are its elements at `G`. -/
theorem done_elim (d : Dev nD) (L : grid0.Coords) (x : S8388608.Idx → Elt F .f32) (w : S4096.Idx → Elt F .i32) :
    (Done d L x w 32 : sProp 𝕄) ⊢ (oLoc d ↦[tileSet (L 0) (L 1)]{fullShare} (G x w : Buf (Elt F) (oLoc d))) := by
  rw [tile_deal]
  unfold Done
  rw [bigSep_finUpTo_self]
  refine bigSep_mono fun j _ => ?_
  unfold Written
  rw [← four_univ, ← four_univ]
  exact bigSep_mono fun c _ => piece_elim d L x w j c

/-- The whole result, dealt to the SparseCores; and a SparseCore's, to its subcores. -/
theorem whole_deal (d : Dev nD) (f : Buf (Elt F) (oLoc d)) :
    (oLoc d ↦{fullShare} f : sProp 𝕄) = bigSep Finset.univ fun c : Fin 2 => oLoc d ↦[coreSet c]{fullShare} f := deal d coreOf Finset.univ f
theorem core_deal (d : Dev nD) (c : Fin 2) (f : Buf (Elt F) (oLoc d)) :
    (oLoc d ↦[coreSet c]{fullShare} f : sProp 𝕄) = bigSep Finset.univ fun s : Fin 16 => oLoc d ↦[tileSet c s]{fullShare} f := deal d subOf (coreSet c) f

end Cert.Proof.Sc
-- ==== Proof.Storage.lean ====
/-
  A tile's own storage: its buffers and semaphores found among what a launch gives its thread, the staged rows cut out of
  their buffers, and put back.
-/
module

public import proofs.«01_k».proof.Proof.Cover

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

open Idealize.ShloMosaic.SparseCore.Cfg (HIx Pay tileRest ownBufs ownSems0 ownCells ownRefs mem_ownCells mem_ownRefs)

/-! ## A buffer's rows -/

section Rows
variable {ℓ : Loc nD τ sig} {I : Type} [Fintype I] [DecidableEq I] (p : Idx ℓ → I) (A : Finset (Idx ℓ))

omit [Fintype I] [DecidableEq I] in
theorem some_contents (A : Finset (Idx ℓ)) (f : Buf (Elt F) ℓ) : (ℓ ↦[A]{fullShare} f : sProp 𝕄) ⊢ iprop(∃ f, ℓ ↦[A]{fullShare} f) := by
  iintro H; iexists f; iexact H

theorem cut :
    (iprop(∃ f, ℓ ↦[A]{fullShare} f) : sProp 𝕄) ⊢ bigSep Finset.univ fun i : I => iprop(∃ f, ℓ ↦[A.filter (fun a => p a = i)]{fullShare} f) := by
  iintro ⟨%f, H⟩
  ihave H' := (Entails.of_eq (pointsTo_biUnion (ℓ := ℓ) (q := fullShare) (f := f) (Finset.univ : Finset I) (fun i : I => A.filter (fun a => p a = i))
    (fun i _ i' _ h => Finset.disjoint_left.mpr fun a ha ha' => h ((Finset.mem_filter.mp ha).2.symm.trans (Finset.mem_filter.mp ha').2)))) $$ [H]
  · rw [show (Finset.univ.biUnion fun i : I => A.filter (fun a => p a = i)) = A by ext a; simp]
    iexact H
  iapply (show (bigSep Finset.univ fun i : I => (ℓ ↦[A.filter (fun a => p a = i)]{fullShare} f : sProp 𝕄))
      ⊢ bigSep Finset.univ fun i : I => iprop(∃ f, ℓ ↦[A.filter (fun a => p a = i)]{fullShare} f) from
    bigSep_mono fun i _ => some_contents _ f) $$ H'

theorem paste [Nonempty I] :
    (bigSep Finset.univ fun i : I => iprop(∃ f, ℓ ↦[A.filter (fun a => p a = i)]{fullShare} f)) ⊢ (iprop(∃ f, ℓ ↦[A]{fullShare} f) : sProp 𝕄) := by
  refine (bigSep_exists_pi Finset.univ (fun i (f : Buf (Elt F) ℓ) => (ℓ ↦[A.filter (fun a => p a = i)]{fullShare} f : sProp 𝕄))).trans ?_
  iintro ⟨%fs, H⟩
  ihave H' := (pointsTo_biUnion_join (ℓ := ℓ) (q := fullShare) (Finset.univ : Finset I) (fun i : I => A.filter (fun a => p a = i)) fs (fs (Classical.arbitrary I))
    (fun i _ i' _ h => Finset.disjoint_left.mpr fun a ha ha' => h ((Finset.mem_filter.mp ha).2.symm.trans (Finset.mem_filter.mp ha').2))) $$ H
  icases H' with ⟨%g, -, Hg⟩
  rw [show (Finset.univ.biUnion fun i : I => A.filter (fun a => p a = i)) = A by ext a; simp]
  iexists g; iexact Hg

end Rows

/-- The row of the staged input, and the slab and row of the staged result, an element is in. -/
def rowX (i : S2x8192.Idx) : Fin 2 := i 0
def slabO (i : S2x4x8192.Idx) : Fin 2 := i 0
def rowO (i : S2x4x8192.Idx) : Fin 4 := i 1

theorem xRow_set (b : Fin 2) : (xRow b).view.set = (Finset.univ : Finset S2x8192.Idx).filter fun i => rowX i = b := by
  ext i
  rw [View.set, Finset.mem_map, Finset.mem_filter]
  constructor
  · rintro ⟨k, -, rfl⟩
    exact ⟨Finset.mem_univ _, Fin.ext (xR_emb (xr_inb b) k 0)⟩
  · rintro ⟨-, e⟩
    refine ⟨ix1 ⟨(i 1).val, (i 1).isLt⟩, Finset.mem_univ _, funext fun a => Fin.ext ?_⟩
    rw [xR_emb]
    fin_cases a
    · exact (congrArg Fin.val e).symm
    · rfl

theorem oRow_set (b : Fin 2) (c : Fin 4) :
    (oRow b c).view.set = ((Finset.univ : Finset S2x4x8192.Idx).filter fun i => slabO i = b).filter fun i => rowO i = c := by
  ext i
  rw [View.set, Finset.mem_map, Finset.mem_filter, Finset.mem_filter]
  constructor
  · rintro ⟨k, -, rfl⟩
    exact ⟨⟨Finset.mem_univ _, Fin.ext (oR_emb (or_inb b c) k 0)⟩, Fin.ext (oR_emb (or_inb b c) k 1)⟩
  · rintro ⟨⟨-, e⟩, e'⟩
    refine ⟨ix1 ⟨(i 2).val, (i 2).isLt⟩, Finset.mem_univ _, funext fun a => Fin.ext ?_⟩
    rw [oR_emb]
    fin_cases a
    · exact (congrArg Fin.val e).symm
    · exact (congrArg Fin.val e').symm
    · rfl

section
variable (d : Dev nD) (L : grid0.Coords)

/-- A row at any contents, as elements of its buffer. -/
theorem free_eq {sp : Space} {s : Shape} {e : EltTy} (m : Memref sig .scVector sp s e) :
    (iprop(∃ Z, owns (thr d L) m fullShare Z) : sProp 𝕄) = iprop(∃ f, m.view.loc (thr d L) ↦[m.view.set]{fullShare} f) := by
  refine BI.equiv_iff.mp ⟨?_, ?_⟩
  · show iprop(∃ Z, owns (thr d L) m fullShare Z) ⊢ iprop(∃ f, m.view.loc (thr d L) ↦[m.view.set]{fullShare} f)
    iintro ⟨%Z, H⟩
    ihave H' := (show owns (thr d L) m fullShare Z ⊢ (iprop(∃ f, ⌜m.view.read (Elt F) f = Z⌝
        ∗ (m.view.loc (thr d L) ↦[m.view.set]{fullShare} f)) : sProp 𝕄) from .rfl) $$ H
    icases H' with ⟨%f, %_, H⟩
    iexists f; iexact H
  · show iprop(∃ f, m.view.loc (thr d L) ↦[m.view.set]{fullShare} f) ⊢ iprop(∃ Z, owns (thr d L) m fullShare Z)
    iintro ⟨%f, H⟩
    iexists _
    iapply (owns_intro (thr d L) m fullShare f) $$ H

/-- The staged input and the staged result, whole. -/
abbrev xBuf : sProp 𝕄 := iprop(∃ f : Buf (Elt F) ((thr d L).loc cc0_scratch4), (thr d L).loc cc0_scratch4 ↦{fullShare} f)
abbrev oBuf : sProp 𝕄 := iprop(∃ f : Buf (Elt F) ((thr d L).loc cc0_scratch5), (thr d L).loc cc0_scratch5 ↦{fullShare} f)

theorem xRow_free (b : Fin 2) : (iprop(∃ f, (thr d L).loc cc0_scratch4 ↦[(Finset.univ : Finset S2x8192.Idx).filter fun i => rowX i = b]{fullShare} f) : sProp 𝕄)
    = iprop(∃ Z, owns (thr d L) (xRow b) fullShare Z) :=
  ((free_eq d L (xRow b)).trans (congrArg (fun A : Finset S2x8192.Idx =>
    (iprop(∃ f : Buf (Elt F) ((thr d L).loc cc0_scratch4), (thr d L).loc cc0_scratch4 ↦[A]{fullShare} f) : sProp 𝕄)) (xRow_set b))).symm

theorem oRow_free (b : Fin 2) (c : Fin 4) : (iprop(∃ f, (thr d L).loc cc0_scratch5
      ↦[((Finset.univ : Finset S2x4x8192.Idx).filter fun i => slabO i = b).filter fun i => rowO i = c]{fullShare} f) : sProp 𝕄)
    = iprop(∃ Z, owns (thr d L) (oRow b c) fullShare Z) :=
  ((free_eq d L (oRow b c)).trans (congrArg (fun A : Finset S2x4x8192.Idx =>
    (iprop(∃ f : Buf (Elt F) ((thr d L).loc cc0_scratch5), (thr d L).loc cc0_scratch5 ↦[A]{fullShare} f) : sProp 𝕄)) (oRow_set b c))).symm

theorem two (Φ : Fin 2 → sProp 𝕄) : (bigSep Finset.univ Φ : sProp 𝕄) = iprop(Φ 0 ∗ Φ 1) := by
  rw [show (Finset.univ : Finset (Fin 2)) = {0, 1} by decide, SparseCore.bigSep_insert' (by decide), bigSep_singleton]

theorem xBuf_cut : (xBuf d L : sProp 𝕄) ⊢ iprop((∃ Z, owns (thr d L) (xRow 0) fullShare Z) ∗ (∃ Z, owns (thr d L) (xRow 1) fullShare Z)) := by
  rw [← xRow_free, ← xRow_free]
  exact (cut (F := F) (ℓ := (thr d L).loc cc0_scratch4) rowX Finset.univ).trans (Entails.of_eq (two _))
theorem xBuf_paste : (iprop((∃ Z, owns (thr d L) (xRow 0) fullShare Z) ∗ (∃ Z, owns (thr d L) (xRow 1) fullShare Z)) : sProp 𝕄) ⊢ xBuf d L := by
  rw [← xRow_free, ← xRow_free]
  exact (Entails.of_eq (two _).symm).trans (paste (F := F) (ℓ := (thr d L).loc cc0_scratch4) rowX Finset.univ)

theorem slab_cut (b : Fin 2) :
    (iprop(∃ f, (thr d L).loc cc0_scratch5 ↦[(Finset.univ : Finset S2x4x8192.Idx).filter fun i => slabO i = b]{fullShare} f) : sProp 𝕄) ⊢ RowsFree d L b := by
  unfold RowsFree
  simp only [← oRow_free]
  exact (cut (F := F) (ℓ := (thr d L).loc cc0_scratch5) rowO _).trans (Entails.of_eq (four_univ _))
theorem slab_paste (b : Fin 2) :
    (RowsFree d L b : sProp 𝕄) ⊢ iprop(∃ f, (thr d L).loc cc0_scratch5 ↦[(Finset.univ : Finset S2x4x8192.Idx).filter fun i => slabO i = b]{fullShare} f) := by
  unfold RowsFree
  simp only [← oRow_free]
  exact (Entails.of_eq (four_univ _).symm).trans (paste (F := F) (ℓ := (thr d L).loc cc0_scratch5) rowO _)

theorem oBuf_cut : (oBuf d L : sProp 𝕄) ⊢ iprop(RowsFree d L 0 ∗ RowsFree d L 1) :=
  ((cut (F := F) (ℓ := (thr d L).loc cc0_scratch5) slabO Finset.univ).trans (Entails.of_eq (two _))).trans (BIClass.sep_mono (slab_cut d L 0) (slab_cut d L 1))
theorem oBuf_paste : (iprop(RowsFree d L 0 ∗ RowsFree d L 1) : sProp 𝕄) ⊢ oBuf d L :=
  (BIClass.sep_mono (slab_paste d L 0) (slab_paste d L 1)).trans
    ((Entails.of_eq (two _).symm).trans (paste (F := F) (ℓ := (thr d L).loc cc0_scratch5) slabO Finset.univ))

/-! ## Among the thread's own -/

abbrev dmaCell (sm : DmaSems sig S_) : GSem nD τ sig := (thr d L, SemLoc.dma sm.sem)

theorem mem_cell (sm : DmaSems sig S_) (h : (SemLoc.dma sm.sem : SemLoc sig).isScoped .scVector = true) : dmaCell d L sm ∈ ownCells (thr d L) :=
  (mem_ownCells (g := dmaCell d L sm)).mpr ⟨rfl, h⟩
theorem cell_ne {sm sm' : DmaSems sig S_} (h : sm.sem ≠ sm'.sem) : dmaCell d L sm ≠ dmaCell d L sm' :=
  fun e => h (SemLoc.dma.inj (Prod.mk.inj e).2)

/-- The thread's semaphores the kernel names nowhere. -/
abbrev cellsLeft : Finset (GSem nD τ sig) :=
  ((((((((ownCells (thr d L)).erase (dmaCell d L cc0_scratch6)).erase (dmaCell d L cc0_scratch7)).erase (dmaCell d L cc0_scratch8)).erase
      (dmaCell d L cc0_scratch9)).erase (dmaCell d L cc0_scoped0)).erase (dmaCell d L cc0_scoped1)).erase (dmaCell d L cc0_scoped2)).erase (dmaCell d L cc0_scoped3)

theorem ownSems_eq : (ownSems0 (thr d L) : sProp 𝕄)
    = iprop(semVal (dmaCell d L cc0_scratch6) 0 ∗ semVal (dmaCell d L cc0_scratch7) 0 ∗ semVal (dmaCell d L cc0_scratch8) 0 ∗ semVal (dmaCell d L cc0_scratch9) 0
      ∗ semVal (dmaCell d L cc0_scoped0) 0 ∗ semVal (dmaCell d L cc0_scoped1) 0 ∗ semVal (dmaCell d L cc0_scoped2) 0 ∗ semVal (dmaCell d L cc0_scoped3) 0
      ∗ bigSep (cellsLeft d L)
          fun g => semVal g 0) := by
  unfold SparseCore.Cfg.ownSems0
  rw [SparseCore.bigSep_erase' (mem_cell d L cc0_scratch6 (by decide)),
    SparseCore.bigSep_erase' (i := dmaCell d L cc0_scratch7) (by
      simp only [Finset.mem_erase]; refine ⟨?_, mem_cell d L _ (by decide)⟩ <;> exact cell_ne d L (by decide)),
    SparseCore.bigSep_erase' (i := dmaCell d L cc0_scratch8) (by
      simp only [Finset.mem_erase]; refine ⟨?_, ?_, mem_cell d L _ (by decide)⟩ <;> exact cell_ne d L (by decide)),
    SparseCore.bigSep_erase' (i := dmaCell d L cc0_scratch9) (by
      simp only [Finset.mem_erase]; refine ⟨?_, ?_, ?_, mem_cell d L _ (by decide)⟩ <;> exact cell_ne d L (by decide)),
    SparseCore.bigSep_erase' (i := dmaCell d L cc0_scoped0) (by
      simp only [Finset.mem_erase]; refine ⟨?_, ?_, ?_, ?_, mem_cell d L _ (by decide)⟩ <;> exact cell_ne d L (by decide)),
    SparseCore.bigSep_erase' (i := dmaCell d L cc0_scoped1) (by
      simp only [Finset.mem_erase]; refine ⟨?_, ?_, ?_, ?_, ?_, mem_cell d L _ (by decide)⟩ <;> exact cell_ne d L (by decide)),
    SparseCore.bigSep_erase' (i := dmaCell d L cc0_scoped2) (by
      simp only [Finset.mem_erase]; refine ⟨?_, ?_, ?_, ?_, ?_, ?_, mem_cell d L _ (by decide)⟩ <;> exact cell_ne d L (by decide)),
    SparseCore.bigSep_erase' (i := dmaCell d L cc0_scoped3) (by
      simp only [Finset.mem_erase]; refine ⟨?_, ?_, ?_, ?_, ?_, ?_, ?_, mem_cell d L _ (by decide)⟩ <;> exact cell_ne d L (by decide))]

abbrev bufAt (b : Ref sig .scVector) : DevRef τ sig := (Proc.scVector (cV L) (jV L)).devRef b

theorem mem_buf (b : Ref sig .scVector) (h : (bufAt L b).owner = .proc (.scVector (cV L) (jV L))) : bufAt L b ∈ ownRefs (τ := τ) (.scVector (cV L) (jV L)) :=
  SparseCore.Cfg.mem_ownRefs_of_owner (p := Proc.scVector (cV L) (jV L)) (b := bufAt L b) h
theorem buf_ne {b b' : Ref sig .scVector} (h : b ≠ b') : bufAt L b ≠ bufAt L b' := fun e => h (Proc.devRef_injective _ e)

/-- The thread's buffers the kernel names nowhere. -/
abbrev refsLeft : Finset (DevRef τ sig) :=
  ((((((ownRefs (τ := τ) (.scVector (cV L) (jV L))).erase (bufAt L cc0_scratch0)).erase (bufAt L cc0_scratch1)).erase (bufAt L cc0_scratch2)).erase
      (bufAt L cc0_scratch3)).erase (bufAt L cc0_scratch4)).erase (bufAt L cc0_scratch5)

theorem ownBufs_eq : (ownBufs (thr d L) : sProp 𝕄)
    = iprop((∃ f, (thr d L).loc cc0_scratch0 ↦{fullShare} f) ∗ (∃ f, (thr d L).loc cc0_scratch1 ↦{fullShare} f)
      ∗ (∃ f, (thr d L).loc cc0_scratch2 ↦{fullShare} f) ∗ (∃ f, (thr d L).loc cc0_scratch3 ↦{fullShare} f) ∗ xBuf d L ∗ oBuf d L
      ∗ bigSep (refsLeft L) fun b => iprop(∃ f, ((d, b) : Loc nD τ sig) ↦{fullShare} f)) := by
  unfold SparseCore.Cfg.ownBufs
  refine (SparseCore.bigSep_erase' (mem_buf L cc0_scratch0 rfl)).trans ?_
  rw [SparseCore.bigSep_erase' (i := bufAt L cc0_scratch1) (by
      simp only [Finset.mem_erase]; refine ⟨?_, mem_buf L _ rfl⟩ <;> exact buf_ne L (by decide)),
    SparseCore.bigSep_erase' (i := bufAt L cc0_scratch2) (by
      simp only [Finset.mem_erase]; refine ⟨?_, ?_, mem_buf L _ rfl⟩ <;> exact buf_ne L (by decide)),
    SparseCore.bigSep_erase' (i := bufAt L cc0_scratch3) (by
      simp only [Finset.mem_erase]; refine ⟨?_, ?_, ?_, mem_buf L _ rfl⟩ <;> exact buf_ne L (by decide)),
    SparseCore.bigSep_erase' (i := bufAt L cc0_scratch4) (by
      simp only [Finset.mem_erase]; refine ⟨?_, ?_, ?_, ?_, mem_buf L _ rfl⟩ <;> exact buf_ne L (by decide)),
    SparseCore.bigSep_erase' (i := bufAt L cc0_scratch5) (by
      simp only [Finset.mem_erase]; refine ⟨?_, ?_, ?_, ?_, ?_, mem_buf L _ rfl⟩ <;> exact buf_ne L (by decide))]

end

end Cert.Proof.Sc
-- ==== Proof.Tile.lean ====
/-
  What a tile is handed and hands back: its shares of the inputs, its part of the result, and its storage. From these
  the tile's run of the program leaves its part of the result at its value.
-/
module

public import proofs.«01_k».proof.Proof.Storage
public import proofs.«01_k».proof.Proof.Cover

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

open Idealize.ShloMosaic.SparseCore.Cfg (HIx Pay tileRest ownBufs ownSems0 ownCells ownRefs mem_ownCells mem_ownRefs)

section
variable (d : Dev nD) (L : grid0.Coords) (x : S8388608.Idx → Elt F .f32) (w : S4096.Idx → Elt F .i32)

/-- The share of an input a SparseCore reads with, and a tile of it. -/
abbrev coreShare (c : Fin 2) : PosShare TreeShare := shareTok fullShare 2 c
abbrev tileShare (c : Fin 2) (s : Fin 16) : PosShare TreeShare := shareTok (coreShare c) 16 s

/-- What tile `(c, s)` is handed: its shares of the two inputs and its part of the result. -/
def goAt (c : Fin 2) (s : Fin 16) : sProp 𝕄 :=
  iprop((xLoc d ↦{tileShare c s} (x : Buf (Elt F) (xLoc d))) ∗ (wLoc d ↦{tileShare c s} (w : Buf (Elt F) (wLoc d)))
    ∗ ∃ f, oLoc d ↦[tileSet c s]{fullShare} f)
/-- What it hands back: the part of the result at its value. -/
def tdAt (c : Fin 2) (s : Fin 16) : sProp 𝕄 :=
  iprop((xLoc d ↦{tileShare c s} (x : Buf (Elt F) (xLoc d))) ∗ (wLoc d ↦{tileShare c s} (w : Buf (Elt F) (wLoc d)))
    ∗ (oLoc d ↦[tileSet c s]{fullShare} (G x w : Buf (Elt F) (oLoc d))))

/-- The thread's storage, apart from what the tile's program names. -/
def Left : sProp 𝕄 :=
  iprop((bigSep (refsLeft L) fun b => iprop(∃ f, ((d, b) : Loc nD τ sig) ↦{fullShare} f)) ∗ bigSep (cellsLeft d L) fun g => semVal g 0)

theorem tab_free (b : Ref sig .scVector) :
    (iprop(∃ f, (thr d L).loc b ↦{fullShare} f) : sProp 𝕄) = iprop(∃ Z, owns (thr d L) (Memref.whole b) fullShare Z) :=
  congrArg (fun Φ : Buf (Elt F) ((thr d L).loc b) → sProp 𝕄 => iprop(∃ f, Φ f)) (funext fun f => (owns_whole (thr d L) b fullShare f).symm)

theorem kit_in (qx q : PosShare TreeShare) :
    iprop((xLoc d ↦{qx} (x : Buf (Elt F) (xLoc d))) ∗ (wLoc d ↦{q} (w : Buf (Elt F) (wLoc d))) ∗ ownBufs (thr d L) ∗ ownSems0 (thr d L))
      ⊢ (iprop(Kit d L x w qx.left qx.right q ∗ Left d L) : sProp 𝕄) := by
  rw [ownBufs_eq, ownSems_eq, tab_free, tab_free, tab_free, tab_free]
  unfold Kit TabsFree TabSems Slot Left
  iintro ⟨Hx, Hw, ⟨T0, T1, T2, T3, HX, HO, HB⟩, ⟨V6, V7, V8, V9, S0, S1, S2, S3, HC⟩⟩
  ihave Hx' := ((pointsTo_share (PosShare.mem_left_op_right qx)).1) $$ Hx
  icases Hx' with ⟨HL, HR⟩
  ihave HX' := (xBuf_cut d L) $$ HX
  icases HX' with ⟨X0, X1⟩
  ihave HO' := (oBuf_cut d L) $$ HO
  icases HO' with ⟨R0, R1⟩
  isplitr [HB HC]
  · isplitl [HL X0 V6]
    · isplitl [HL]; · iexact HL
      isplitl [X0]; · iexact X0
      iexact V6
    isplitl [HR X1 V7]
    · isplitl [HR]; · iexact HR
      isplitl [X1]; · iexact X1
      iexact V7
    isplitl [Hw]; · iexact Hw
    isplitl [T0 T1 T2 T3]
    · isplitl [T0]; · iexact T0
      isplitl [T1]; · iexact T1
      isplitl [T2]; · iexact T2
      iexact T3
    isplitl [S0 S1 S2 S3]
    · isplitl [S0]; · iexact S0
      isplitl [S1]; · iexact S1
      isplitl [S2]; · iexact S2
      iexact S3
    isplitl [R0 V8]
    · isplitl [R0]; · iexact R0
      iexact V8
    · isplitl [R1]; · iexact R1
      iexact V9
  · isplitl [HB]; · iexact HB
    iexact HC

theorem kit_out (qx q : PosShare TreeShare) :
    iprop(Kit d L x w qx.left qx.right q ∗ Left d L)
      ⊢ (iprop((xLoc d ↦{qx} (x : Buf (Elt F) (xLoc d))) ∗ (wLoc d ↦{q} (w : Buf (Elt F) (wLoc d))) ∗ ownBufs (thr d L) ∗ ownSems0 (thr d L)) : sProp 𝕄) := by
  rw [ownBufs_eq, ownSems_eq, tab_free, tab_free, tab_free, tab_free]
  unfold Kit TabsFree TabSems Slot Left
  iintro ⟨⟨⟨HL, X0, V6⟩, ⟨HR, X1, V7⟩, Hw, ⟨T0, T1, T2, T3⟩, ⟨S0, S1, S2, S3⟩, ⟨R0, V8⟩, ⟨R1, V9⟩⟩, ⟨HB, HC⟩⟩
  isplitl [HL HR]
  · iapply ((pointsTo_share (PosShare.mem_left_op_right qx)).2) $$ [HL HR]
    isplitl [HL]; · iexact HL
    iexact HR
  isplitl [Hw]; · iexact Hw
  isplitl [T0 T1 T2 T3 X0 X1 R0 R1 HB]
  · isplitl [T0]; · iexact T0
    isplitl [T1]; · iexact T1
    isplitl [T2]; · iexact T2
    isplitl [T3]; · iexact T3
    isplitl [X0 X1]
    · iapply (xBuf_paste d L) $$ [X0 X1]
      isplitl [X0]; · iexact X0
      iexact X1
    isplitl [R0 R1]
    · iapply (oBuf_paste d L) $$ [R0 R1]
      isplitl [R0]; · iexact R0
      iexact R1
    iexact HB
  · isplitl [V6]; · iexact V6
    isplitl [V7]; · iexact V7
    isplitl [V8]; · iexact V8
    isplitl [V9]; · iexact V9
    isplitl [S0]; · iexact S0
    isplitl [S1]; · iexact S1
    isplitl [S2]; · iexact S2
    isplitl [S3]; · iexact S3
    iexact HC

/-- The tile's task, from what it is handed to what it hands back. -/
theorem tile_body (O : CellTallies nD τ sig (HIx 1)) (W : Waits sig (HIx 1)) (hO : ∀ g, O g none = 0) :
    iprop(levAts (K (F := F)).L (K (F := F)).lev ∗ emp ∗ goAt d x w (L 0) (L 1) ∗ scopedBufs (thr d L) ∗ scopedSems0 (thr d L) ∗ owes (thr d L) O W)
      ⊢ wp frame (wpE (defs₀ (F := F)) 𝒱₀ (thr d L) none) Set.univ (tileProg (F := F) L)
          fun _ => iprop(tdAt d x w (L 0) (L 1) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L)]
  unfold goAt tdAt
  iintro ⟨#Hlv, -, ⟨Hx, Hw, ⟨%f, Ho⟩⟩, HB, HC, HO⟩
  ihave Hm := ((K (F := F)).mayWaits_none (thr := thr d L) hO) $$ Hlv
  ihave HK := (kit_in d L x w _ _) $$ [Hx Hw HB HC]
  · isplitl [Hx]; · iexact Hx
    isplitl [Hw]; · iexact Hw
    isplitl [HB]; · iexact HB
    iexact HC
  icases HK with ⟨HK, HLeft⟩
  ihave HT := (todo_intro d L f) $$ Ho
  iapply (wp_tile d L x w O W _ _ _) $$ [Hm HO HK HT]
  · isplitl [Hm]; · iexact Hm
    isplitl [HO]
    · unfold Owed
      iexists W
      isplitr
      · ipureintro; exact fun p hp => .inl hp
      · iexact HO
    isplitl [HK]; · iexact HK
    iexact HT
  iintro ⟨HO, HK, HD⟩
  ihave HR := (kit_out d L x w _ _) $$ [HK HLeft]
  · isplitl [HK]; · iexact HK
    iexact HLeft
  icases HR with ⟨Hx, Hw, HB, HC⟩
  isplitl [Hx Hw HD]
  · isplitl [Hx]; · iexact Hx
    isplitl [Hw]; · iexact Hw
    iapply (done_elim d L x w) $$ HD
  isplitl [HB]; · iexact HB
  isplitl [HC]; · iexact HC
  iapply (show (Owed d L O W : sProp 𝕄) ⊢ iprop(∃ W', ⌜∀ p ∈ W', p ∈ W ∨ p.2 = none⌝ ∗ owes (thr d L) O W') from .rfl) $$ HO

end

end Cert.Proof.Sc
-- ==== Proof.Launch.lean ====
/-
  The whole program's run. The SparseCore call is handed shares of its two inputs and the whole of its result, dealt to
  the two SparseCores and by each to its sixteen tiles; every tile leaves its part of the result at its value, so the
  whole of it ends at its value. Around the call stand reshapes only.
-/
module

public import proofs.«01_k».proof.Proof.Tile
public import Idealize.ShloMosaic.Lib.StableHlo.Run
public import Idealize.ShloMosaic.Lib.Pipeline.Kit
public import Idealize.ShloMosaic.Lib.Tactic

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.ProtocolKit
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Rounds

/-! ## Dealing -/

section Deal
variable (d : Dev nD) (x : S8388608.Idx → Elt F .f32) (w : S4096.Idx → Elt F .i32)

/-- What a SparseCore is handed, and what it hands back. -/
def stAt (c : Fin 2) : sProp 𝕄 :=
  iprop((xLoc d ↦{coreShare c} (x : Buf (Elt F) (xLoc d))) ∗ (wLoc d ↦{coreShare c} (w : Buf (Elt F) (wLoc d))) ∗ ∃ f, oLoc d ↦[coreSet c]{fullShare} f)
def dnAt (c : Fin 2) : sProp 𝕄 :=
  iprop((xLoc d ↦{coreShare c} (x : Buf (Elt F) (xLoc d))) ∗ (wLoc d ↦{coreShare c} (w : Buf (Elt F) (wLoc d)))
    ∗ (oLoc d ↦[coreSet c]{fullShare} (G x w : Buf (Elt F) (oLoc d))))

theorem goAt_intro (c : Fin 2) (f : Buf (Elt F) (oLoc d)) (i : Fin 16) :
    iprop((xLoc d ↦{tileShare c i} (x : Buf (Elt F) (xLoc d))) ∗ (wLoc d ↦{tileShare c i} (w : Buf (Elt F) (wLoc d))) ∗ (oLoc d ↦[tileSet c i]{fullShare} f))
      ⊢ (goAt d x w c i : sProp 𝕄) := by
  unfold goAt
  iintro ⟨Hx, Hw, Ho⟩
  isplitl [Hx]; · iexact Hx
  isplitl [Hw]; · iexact Hw
  iexists f; iexact Ho

theorem core_split (c : Fin 2) :
    (stAt d x w c : sProp 𝕄) ⊢ iprop((bigSep Finset.univ fun i : Fin 16 => goAt d x w c i)
      ∗ ((bigSep Finset.univ fun i : Fin 16 => tdAt d x w c i) -∗ dnAt d x w c)) := by
  unfold stAt dnAt tdAt
  rw [bigSep_sep', bigSep_sep', core_deal (f := G x w)]
  iintro ⟨Hx, Hw, ⟨%f, Ho⟩⟩
  ihave Hx' := (pointsTo_toks_split (coreShare c) 16) $$ Hx
  icases Hx' with ⟨Dx, Hx⟩
  ihave Hw' := (pointsTo_toks_split (coreShare c) 16) $$ Hw
  icases Hw' with ⟨Dw, Hw⟩
  ihave Ho' := (Entails.of_eq (core_deal d c f)) $$ Ho
  isplitl [Hx Hw Ho']
  · iapply (show (iprop((bigSep Finset.univ fun i : Fin 16 => xLoc d ↦{tileShare c i} (x : Buf (Elt F) (xLoc d)))
        ∗ (bigSep Finset.univ fun i : Fin 16 => wLoc d ↦{tileShare c i} (w : Buf (Elt F) (wLoc d)))
        ∗ (bigSep Finset.univ fun i : Fin 16 => oLoc d ↦[tileSet c i]{fullShare} f)) : sProp 𝕄) ⊢ bigSep Finset.univ fun i : Fin 16 => goAt d x w c i from by
      rw [← bigSep_sep', ← bigSep_sep']; exact bigSep_mono fun i _ => goAt_intro d x w c f i) $$ [Hx Hw Ho']
    isplitl [Hx]; · iexact Hx
    isplitl [Hw]; · iexact Hw
    iexact Ho'
  · iintro ⟨Hx, Hw, Ho⟩
    isplitl [Dx Hx]
    · iapply (pointsTo_toks_join (coreShare c) 16) $$ [Dx Hx]
      isplitl [Dx]; · iexact Dx
      iexact Hx
    isplitl [Dw Hw]
    · iapply (pointsTo_toks_join (coreShare c) 16) $$ [Dw Hw]
      isplitl [Dw]; · iexact Dw
      iexact Hw
    iexact Ho

theorem stAt_intro (f : Buf (Elt F) (oLoc d)) (c : Fin 2) :
    iprop((xLoc d ↦{coreShare c} (x : Buf (Elt F) (xLoc d))) ∗ (wLoc d ↦{coreShare c} (w : Buf (Elt F) (wLoc d))) ∗ (oLoc d ↦[coreSet c]{fullShare} f))
      ⊢ (stAt d x w c : sProp 𝕄) := by
  unfold stAt
  iintro ⟨Hx, Hw, Ho⟩
  isplitl [Hx]; · iexact Hx
  isplitl [Hw]; · iexact Hw
  iexists f; iexact Ho

theorem call_split (f : Buf (Elt F) (oLoc d)) :
    (iprop((xLoc d ↦{fullShare} (x : Buf (Elt F) (xLoc d))) ∗ (wLoc d ↦{fullShare} (w : Buf (Elt F) (wLoc d))) ∗ (oLoc d ↦{fullShare} f)) : sProp 𝕄)
      ⊢ iprop((bigSep Finset.univ fun c : Fin 2 => stAt d x w c)
        ∗ ((bigSep Finset.univ fun c : Fin 2 => dnAt d x w c) -∗ iprop((xLoc d ↦{fullShare} (x : Buf (Elt F) (xLoc d)))
          ∗ (wLoc d ↦{fullShare} (w : Buf (Elt F) (wLoc d))) ∗ (oLoc d ↦{fullShare} (G x w : Buf (Elt F) (oLoc d)))))) := by
  unfold dnAt
  rw [bigSep_sep', bigSep_sep', whole_deal (f := G x w)]
  iintro ⟨Hx, Hw, Ho⟩
  ihave Hx' := (pointsTo_toks_split fullShare 2) $$ Hx
  icases Hx' with ⟨Dx, Hx⟩
  ihave Hw' := (pointsTo_toks_split fullShare 2) $$ Hw
  icases Hw' with ⟨Dw, Hw⟩
  ihave Ho' := (Entails.of_eq (whole_deal d f)) $$ Ho
  isplitl [Hx Hw Ho']
  · iapply (show (iprop((bigSep Finset.univ fun c : Fin 2 => xLoc d ↦{coreShare c} (x : Buf (Elt F) (xLoc d)))
        ∗ (bigSep Finset.univ fun c : Fin 2 => wLoc d ↦{coreShare c} (w : Buf (Elt F) (wLoc d)))
        ∗ (bigSep Finset.univ fun c : Fin 2 => oLoc d ↦[coreSet c]{fullShare} f)) : sProp 𝕄) ⊢ bigSep Finset.univ fun c : Fin 2 => stAt d x w c from by
      rw [← bigSep_sep', ← bigSep_sep']; exact bigSep_mono fun c _ => stAt_intro d x w f c) $$ [Hx Hw Ho']
    isplitl [Hx]; · iexact Hx
    isplitl [Hw]; · iexact Hw
    iexact Ho'
  · iintro ⟨Hx, Hw, Ho⟩
    isplitl [Dx Hx]
    · iapply (pointsTo_toks_join fullShare 2) $$ [Dx Hx]
      isplitl [Dx]; · iexact Dx
      iexact Hx
    isplitl [Dw Hw]
    · iapply (pointsTo_toks_join fullShare 2) $$ [Dw Hw]
      isplitl [Dw]; · iexact Dw
      iexact Hw
    iexact Ho

end Deal

/-! ## The host's arrays -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v3

abbrev opX : HloOp τ sig (Elt F) := StableHlo.reshape main_arg0 main_v0 (rfl : (.f32 : EltTy) = .f32) shapeCasts_S4x1x128x128x128_S8388608
abbrev opW : HloOp τ sig (Elt F) := StableHlo.reshape main_arg1 main_v1 (rfl : (.i32 : EltTy) = .i32) shapeCasts_S4x4x256_S4096
abbrev opR : HloOp τ sig (Elt F) := StableHlo.reshape main_v2 main_v3 (rfl : (.f32 : EltTy) = .f32) shapeCasts_S33554432_S4x4x128x128x128

/-- The host's arrays. -/
abbrev S6 : Finset (DevRef τ sig) := {a0', a1', x', w', o', r'}

/-- The arrays at the start, after each reshape before the call, after the call, and at the end. -/
def V0 (d : Dev nD) : Valuation τ sig (Elt F) := fun b => m (d, b)
def V1 (d : Dev nD) : Valuation τ sig (Elt F) := (opX (F := F)).result (V0 m d)
def V2 (d : Dev nD) : Valuation τ sig (Elt F) := (opW (F := F)).result (V1 m d)
/-- The call's arguments. -/
def xOf (d : Dev nD) : S8388608.Idx → Elt F .f32 := V2 m d x'
def wOf (d : Dev nD) : S4096.Idx → Elt F .i32 := V2 m d w'
def V3 (d : Dev nD) : Valuation τ sig (Elt F) := Function.update (V2 m d) o' (G (xOf m d) (wOf m d))
def V4 (d : Dev nD) : Valuation τ sig (Elt F) := (opR (F := F)).result (V3 m d)

theorem held_S6 (d : Dev nD) (W : Valuation τ sig (Elt F)) :
    (held (SparseCore.T d) S6 W : sProp 𝕄) = iprop((a0Loc d ↦{fullShare} W a0') ∗ (a1Loc d ↦{fullShare} W a1') ∗ (xLoc d ↦{fullShare} W x')
      ∗ (wLoc d ↦{fullShare} W w') ∗ (oLoc d ↦{fullShare} W o') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xLoc d ↦{fullShare} W main_v0)
      ∗ (wLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) S6 (V0 m d) := by
  rw [unscopedBufs_eq, held_S6]; rfl

theorem V2_a0 (d : Dev nD) : V2 m d a0' = m (a0Loc d) :=
  (HloOp.result_of_not_mem _ (V1 m d) (show a0' ∉ ({w'} : Finset (DevRef τ sig)) by decide)).trans (HloOp.result_of_not_mem _ (V0 m d) (show a0' ∉ ({x'} : Finset (DevRef τ sig)) by decide))
theorem V2_a1 (d : Dev nD) : V2 m d a1' = m (a1Loc d) :=
  (HloOp.result_of_not_mem _ (V1 m d) (show a1' ∉ ({w'} : Finset (DevRef τ sig)) by decide)).trans (HloOp.result_of_not_mem _ (V0 m d) (show a1' ∉ ({x'} : Finset (DevRef τ sig)) by decide))
theorem V3_ne (d : Dev nD) {b : DevRef τ sig} (h : b ≠ o') : V3 m d b = V2 m d b := Function.update_of_ne h _ _
theorem V3_o (d : Dev nD) : V3 m d o' = G (xOf m d) (wOf m d) := Function.update_self _ _ _
theorem V4_a0 (d : Dev nD) : V4 m d a0' = m (a0Loc d) :=
  (HloOp.result_of_not_mem _ (V3 m d) (show a0' ∉ ({r'} : Finset (DevRef τ sig)) by decide)).trans ((V3_ne m d (by decide)).trans (V2_a0 m d))
theorem V4_a1 (d : Dev nD) : V4 m d a1' = m (a1Loc d) :=
  (HloOp.result_of_not_mem _ (V3 m d) (show a1' ∉ ({r'} : Finset (DevRef τ sig)) by decide)).trans ((V3_ne m d (by decide)).trans (V2_a1 m d))

theorem hX : (opX (F := F)).bufs ⊆ S6 := show ({a0', x'} : Finset (DevRef τ sig)) ⊆ S6 by decide
theorem hW : (opW (F := F)).bufs ⊆ S6 := show ({a1', w'} : Finset (DevRef τ sig)) ⊆ S6 by decide
theorem hR : (opR (F := F)).bufs ⊆ S6 := show ({o', r'} : Finset (DevRef τ sig)) ⊆ S6 by decide

/-! ## The call's terms -/

theorem nSub_zero : (K (F := F)).nSub 0 = 16 := rfl
theorem nCore_zero : (K (F := F)).nCore 0 = 2 := rfl

/-- What every thread of the call is handed and hands back. -/
def P : (K (F := F)).Pay (nD := nD) (Val := Elt F) (Name := ℕ) (U := UU) where
  st := fun q d c => match q with | 0 => stAt d (xOf m d) (wOf m d) (Fin.cast nCore_zero c)
  dn := fun q d c => match q with | 0 => dnAt d (xOf m d) (wOf m d) (Fin.cast nCore_zero c)
  go := fun q d c i => match q with | 0 => goAt d (xOf m d) (wOf m d) (Fin.cast nCore_zero c) (Fin.cast nSub_zero i)
  td := fun q d c i => match q with | 0 => tdAt d (xOf m d) (wOf m d) (Fin.cast nCore_zero c) (Fin.cast nSub_zero i)
  x := fun _ _ => iprop(emp)

instance storable_st (d : Dev nD) (x : S8388608.Idx → Elt F .f32) (w : S4096.Idx → Elt F .i32) (c : Fin 2) :
    BI.Storable (upEmb : UEmb _ 𝕄) (stAt d x w c) := by unfold stAt; infer_instance
instance storable_dn (d : Dev nD) (x : S8388608.Idx → Elt F .f32) (w : S4096.Idx → Elt F .i32) (c : Fin 2) :
    BI.Storable (upEmb : UEmb _ 𝕄) (dnAt d x w c) := by unfold dnAt; infer_instance
instance storable_go (d : Dev nD) (x : S8388608.Idx → Elt F .f32) (w : S4096.Idx → Elt F .i32) (c : Fin 2) (i : Fin 16) :
    BI.Storable (upEmb : UEmb _ 𝕄) (goAt d x w c i) := by unfold goAt; infer_instance
instance storable_td (d : Dev nD) (x : S8388608.Idx → Elt F .f32) (w : S4096.Idx → Elt F .i32) (c : Fin 2) (i : Fin 16) :
    BI.Storable (upEmb : UEmb _ 𝕄) (tdAt d x w c i) := by unfold tdAt; infer_instance

instance P_storable : (P (F := F) m).IsStorable where
  st q d c := match q with | 0 => storable_st d (xOf m d) (wOf m d) (Fin.cast nCore_zero c)
  dn q d c := match q with | 0 => storable_dn d (xOf m d) (wOf m d) (Fin.cast nCore_zero c)
  go q d c i := match q with | 0 => storable_go d (xOf m d) (wOf m d) (Fin.cast nCore_zero c) (Fin.cast nSub_zero i)
  td q d c i := match q with | 0 => storable_td d (xOf m d) (wOf m d) (Fin.cast nCore_zero c) (Fin.cast nSub_zero i)

def coordsV (c : Fin (grid0.bound 0)) (s : Fin (grid0.bound 1)) : grid0.Coords := fun
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (F := F) (coordsV c s)) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (xOf m d) (wOf m d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show stAt d (xOf m d) (wOf m d) (Fin.cast nCore_zero c) ⊢ |={Set.univ}=> iprop(
    (bigSep Finset.univ fun i : Fin ((K (F := F)).nSub 0) => goAt d (xOf m d) (wOf m d) (Fin.cast nCore_zero c) (Fin.cast nSub_zero i))
    ∗ ((bigSep Finset.univ fun i : Fin ((K (F := F)).nSub 0) => tdAt d (xOf m d) (wOf m d) (Fin.cast nCore_zero c) (Fin.cast nSub_zero i))
      -∗ dnAt d (xOf m d) (wOf m d) (Fin.cast nCore_zero c)))
  rw [bigSep_tasks (F := F) (fun i => goAt d (xOf m d) (wOf m d) (Fin.cast nCore_zero c) i),
    bigSep_tasks (F := F) (fun i => tdAt d (xOf m d) (wOf m d) (Fin.cast nCore_zero c) i)]
  iintro H; imodintro
  iapply (core_split d (xOf m d) (wOf m d) (Fin.cast nCore_zero c)) $$ H

/-! ## The start -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's program -/

/-- What the host's program leaves: the two arguments as they were, and the result. -/
abbrev FIN (d : Dev nD) : sProp 𝕄 :=
  iprop((a0Loc d ↦{fullShare} m (a0Loc d)) ∗ (a1Loc d ↦{fullShare} m (a1Loc d)) ∗ (rLoc d ↦{fullShare} V4 m d r'))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opW) (S := S6) hW (V := V1 m d)) $$ [Hb Hheld]
  · isplitl [Hb]; · iexact Hb
    iexact Hheld
  iintro ⟨Hb, Hheld⟩
  rw [wp_ret]; imodintro
  ihave Hh := (show (held (SparseCore.T d) S6 ((opW (F := F)).result (V1 m d)) : sProp 𝕄) ⊢ _ from Entails.of_eq (held_S6 (F := F) d (V2 m d))) $$ Hheld
  icases Hh with ⟨H0, H1, Hx, Hw, Ho, Hr⟩
  ihave Hs := (call_split d (xOf m d) (wOf m d) (V2 m d o')) $$ [Hx Hw Ho]
  · isplitl [Hx]; · iexact Hx
    isplitl [Hw]; · iexact Hw
    iexact Ho
  icases Hs with ⟨Hs, Hback⟩
  iapply ((K (F := F)).wp_run (D (F := F)) 𝒱 (EH := EH) (P := P m) κ d 0) $$ [Hst Hs Hback Hb H0 H1 Hr Hts]
  isplitr; · iexact Hctx
  isplitl [Hst]; · iexact Hst
  isplitl [Hs]
  · iapply (show (bigSep Finset.univ fun c : Fin 2 => stAt d (xOf m d) (wOf m d) c : sProp 𝕄) ⊢ bigSep Finset.univ fun c : Fin ((K (F := F)).nCore 0) => (P m).st 0 d c
      from Entails.of_eq (bigSep_cores (F := F) (fun c => stAt d (xOf m d) (wOf m d) c)).symm) $$ Hs
  iintro ⟨Hst, Hdn⟩
  ihave Hdn' := (show (bigSep Finset.univ fun c : Fin ((K (F := F)).nCore 0) => (P m).dn 0 d c : sProp 𝕄) ⊢ bigSep Finset.univ fun c : Fin 2 => dnAt d (xOf m d) (wOf m d) c
      from Entails.of_eq (bigSep_cores (F := F) (fun c => dnAt d (xOf m d) (wOf m d) c))) $$ Hdn
  ihave Hs := Hback $$ Hdn'
  icases Hs with ⟨Hx, Hw, Ho⟩
  iapply (wp_hlo_within 𝒱 (SparseCore.T d) none Set.univ (op := opR) (S := S6) hR (V := V3 m d)) $$ [Hb H0 H1 Hx Hw Ho Hr]
  · isplitl [Hb]; · iexact Hb
    rw [held_S6, V3_o, V3_ne m d (b := a0') (by decide), V3_ne m d (b := a1') (by decide), V3_ne m d (b := x') (by decide),
      V3_ne m d (b := w') (by decide), V3_ne m d (b := r') (by decide)]
    isplitl [H0]; · iexact H0
    isplitl [H1]; · iexact H1
    isplitl [Hx]; · iexact Hx
    isplitl [Hw]; · iexact Hw
    isplitl [Ho]; · iexact Ho
    iexact Hr
  iintro ⟨Hb, Hheld⟩
  ihave Hh := (show (held (SparseCore.T d) S6 ((opR (F := F)).result (V3 m d)) : sProp 𝕄) ⊢ _ from Entails.of_eq (held_S6 (F := F) d (V4 m d))) $$ Hheld
  icases Hh with ⟨H0, H1, -, -, -, Hr⟩
  rw [wp_ret]; imodintro; imodintro
  isplitl [Hst]; · iexact Hst
  isplitr [Hb Hts]
  · unfold FIN
    rw [← V4_a0 m d, ← V4_a1 m d]
    isplitl [H0]; · iexact H0
    isplitl [H1]; · iexact H1
    iexact Hr
  isplitl [Hb] <;> iassumption

/-! ## The claim's reading -/

def fq (d : Dev nD) (s' : Phys nD τ sig (Elt F)) : Prop :=
  s'.mem.mem (a0Loc d) = m (a0Loc d) ∧ s'.mem.mem (a1Loc d) = m (a1Loc d) ∧ s'.mem.mem (rLoc d) = V4 m d r'

theorem agree {s' : Phys nD τ sig (Elt F)} {ℓ : Loc nD τ sig} (f : Buf (Elt F) ℓ) :
    iprop((ℓ ↦{fullShare} f) ∗ SI s') ⊢ (iprop(⌜s'.mem.mem ℓ = f⌝ ∗ SI s') : sProp 𝕄) := by
  refine (persistent_entails_right (P := iprop((ℓ ↦{fullShare} f) ∗ SI s')) (Q := iprop(⌜s'.mem.mem ℓ = f⌝)) ?_).trans ?_
  · iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  · iintro ⟨%h, ⟨-, HSI⟩⟩
    isplitr
    · ipureintro; exact h
    · iexact HSI

theorem hfin (d : Dev nD) (s' : Phys nD τ sig (Elt F)) : iprop(FIN m d ∗ SI s') ⊢ (⌜fq m d s'⌝ : sProp 𝕄) := by
  iintro ⟨⟨H0, H1, Hr⟩, HSI⟩
  ihave H := (agree (m (a0Loc d))) $$ [H0 HSI]
  · isplitl [H0]; · iexact H0
    iexact HSI
  icases H with ⟨%h0, HSI⟩
  ihave H := (agree (m (a1Loc d))) $$ [H1 HSI]
  · isplitl [H1]; · iexact H1
    iexact HSI
  icases H with ⟨%h1, HSI⟩
  ihave H := (agree (ℓ := rLoc d) (V4 m d r')) $$ [Hr HSI]
  · isplitl [Hr]; · iexact Hr
    iexact HSI
  icases H with ⟨%hr, -⟩
  ipureintro; exact ⟨h0, h1, hr⟩

def QC : PUnit × MemSt nD τ sig (Elt F) → Prop := fun r =>
  (∀ c : Dev nD, r.2.mem (a0Loc c) = m (a0Loc c) ∧ r.2.mem (a1Loc c) = m (a1Loc c) ∧ r.2.mem (rLoc c) = V4 m c r') ∧ r.2.sem = fun _ => 0

/-- The whole program, from any memory and any generator state: it ends with its two arguments unchanged, its result at
    its value, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sc
-- ==== Proof.RefValue.lean ====
/-
  The reference's result read at one index. Its composed term (Gen/ReferenceIdeal/Run.lean) is cut here into its named
  stages, and each stage read at an index: the knots of the grid, the image laid out once per table, the count of the
  knots at or below an element, and the takes along a table's row.
-/
module

public import proofs.«01_k».proof.Proof.Gen.ReferenceIdeal.Run
public import Idealize.ShloMosaic.Lib.ValueLayout
public import Idealize.ShloMosaic.Lib.ValueIdxCore
public import Idealize.ShloMosaic.Lib.ReduceAll
public import Idealize.ShloMosaic.Lib.StableHlo.Predicate

@[expose] public section

noncomputable section

namespace Cert.Proof.Ref

open Cert.ReferenceIdeal Cert.ReferenceIdeal.Gen
open Idealize.ShloMosaic Idealize.ShloMosaic.ValueIdx

variable {F : FTy → Type} [FloatOps F]

/-! ## The stages -/

/-- `i / 255` for the first 255 knots. -/
def step : FVec F S255 .f32 :=
  Host.divf (sitofp .f32 (iotaInDim S255 32 0)) (broadcastInDim S255 ![] bcast_S_S255 (constant S_ .f32 0x437F0000#32))

/-- The first 255 knots: `0 * (1 - i / 255) + 1 * (i / 255)`. -/
def firstKnots : FVec F S255 .f32 :=
  addf (mulf (broadcastInDim S255 ![0] bcast_S1_S255_0 (shapeCast S1 (constant S_ .f32 0x00000000#32) shapeCasts_S_S1))
      (subf (broadcastInDim S255 ![] bcast_S_S255 (constant S_ .f32 0x3F800000#32)) step))
    (mulf (broadcastInDim S255 ![0] bcast_S1_S255_0 (shapeCast S1 (constant S_ .f32 0x3F800000#32) shapeCasts_S_S1)) step)

/-- The 256 knots: the last one is the constant 1. -/
def knots : FVec F S256 .f32 :=
  concatenate S256 0 [⟨S255, firstKnots⟩, ⟨S1, broadcastInDim S1 ![] bcast_S_S1 (constant S_ .f32 0x3F800000#32)⟩] concatenates_S255_S1_S256_d0

/-- The knots, one row for each table. -/
def grid : FVec F S16x256 .f32 := broadcastInDim S16x256 ![1] bcast_S256_S16x256_1 knots

/-- The image, one row for each table. -/
def image (x : FVec F S4x1x128x128x128 .f32) : FVec F S16x2097152 .f32 :=
  shapeCast S16x2097152 (broadcastInDim S4x4x128x128x128 ![0, 1, 2, 3, 4] bcast_S4x1x128x128x128_S4x4x128x128x128_0_1_2_3_4 x) shapeCasts_S4x4x128x128x128_S16x2097152

/-- The tables, one row each. -/
def rows (w : IVec S4x4x256 32) : IVec S16x256 32 := shapeCast S16x256 w shapeCasts_S4x4x256_S16x256
/-- The words' low halves, as floats. -/
def starts (w : IVec S4x4x256 32) : FVec F S16x256 .f32 :=
  bitcastToFloat (F := F) .f32 (Host.shli (rows w) (broadcastInDim S16x256 ![] bcast_S_S16x256 (constantI S_ 32 16#32)))
/-- The words' high halves, as floats. -/
def rises (w : IVec S4x4x256 32) : FVec F S16x256 .f32 :=
  bitcastToFloat (F := F) .f32 (andi (rows w) (broadcastInDim S16x256 ![] bcast_S_S16x256 (constantI S_ 32 4294901760#32)))

/-- Which knots are at or below which elements. -/
def below (x : FVec F S16x2097152 .f32) : IVec S16x2097152x256 1 :=
  cmpf .ole
    (broadcastInDim S16x2097152x256 ![0, 1, 2] bcast_S16x1x256_S16x2097152x256_0_1_2 (broadcastInDim S16x1x256 ![0, 2] bcast_S16x256_S16x1x256_0_2 (grid (F := F))))
    (broadcastInDim S16x2097152x256 ![0, 1, 2] bcast_S16x2097152x1_S16x2097152x256_0_1_2 (broadcastInDim S16x2097152x1 ![0, 1] bcast_S16x2097152_S16x2097152x1_0_1 x))

/-- How many knots are at or below each element. -/
def count (x : FVec F S16x2097152 .f32) : IVec S16x2097152 32 :=
  Host.reduce IntOp.addi (extui 32 (below x) natLt_1_32) (constantI S_ 32 0#32) reducesTo_S16x2097152x256_S16x2097152_d2 h_S_

/-- A word everywhere. -/
abbrev all (v : BitVec 32) : IVec S16x2097152 32 := broadcastInDim S16x2097152 ![] bcast_S_S16x2097152 (constantI S_ 32 v)

/-- The knot an element is read from: the last one at or below it, kept between 0 and 254. -/
def lower (x : FVec F S16x2097152 .f32) : IVec S16x2097152 32 :=
  minsi (all 254#32) (maxsi (all 0#32) (subi (count x) (all 1#32)))
/-- The knot after it. -/
def upper (x : FVec F S16x2097152 .f32) : IVec S16x2097152 32 := addi (lower x) (all 1#32)

/-- The index a take reads at: a negative one counts from the end. -/
def wrapped (I : IVec S16x2097152 32) : IVec S16x2097152x1 32 :=
  shapeCast S16x2097152x1 (select (cmpi .slt I (all 0#32)) (addi I (all 256#32)) I) shapeCasts_S16x2097152_S16x2097152x1

/-- Which indices of a take are in range. -/
def inRange (J : IVec S16x2097152x1 32) : IVec S16x2097152x1 1 :=
  andi (cmpi .sge J (broadcastInDim S16x2097152x1 ![] bcast_S_S16x2097152x1 (constantI S_ 32 0#32)))
    (cmpi .sle J (broadcastInDim S16x2097152x1 ![0, 1, 2] bcast_S1x1x1_S16x2097152x1_0_1_2 (broadcastInDim S1x1x1 ![2] bcast_S1_S1x1x1_2 (constantI S1 32 255#32))))

/-- A take along the rows of a table. -/
def take (A : FVec F S16x256 .f32) (I : IVec S16x2097152 32) : FVec F S16x2097152 .f32 :=
  select (Host.reduce IntOp.andi (inRange (wrapped I)) (constantI S_ 1 1#1) reducesTo_S16x2097152x1_S16x2097152_d2 h_S_)
    (Host.gather gather_S16x256_S16x2097152x1_S16x2097152_n_1_0_0_1_2_11 A (wrapped I))
    (broadcastInDim S16x2097152 ![] bcast_S_S16x2097152 (constant S_ .f32 0x7FC00000#32))

/-- The transfer, one row for each table. -/
def lines (x : FVec F S16x2097152 .f32) (w : IVec S4x4x256 32) : FVec F S16x2097152 .f32 :=
  addf (take (starts w) (lower x))
    (mulf (Host.divf (take (rises w) (lower x)) (subf (take grid (upper x)) (take grid (lower x)))) (subf x (take grid (lower x))))

set_option maxRecDepth 8192 in
/-- The reference's composed term is the stages above, put together. -/
theorem res_eq (m : (ℓ : Loc nD τ sig) → Buf (Elt F) ℓ) (c : Dev nD) :
    Cert.ReferenceIdeal.Value.res_main_v32 m c
      = shapeCast S4x4x128x128x128 (lines (F := F) (image (m ((c.tc : Thread nD τ).loc main_arg0))) (m ((c.tc : Thread nD τ).loc main_arg1))) shapeCasts_S16x2097152_S4x4x128x128x128 := rfl

/-! ## Each stage at an index -/

/-- The literal everywhere. -/
theorem all_apply (v : BitVec 32) (i : S16x2097152.Idx) : all v i = v := rfl

theorem step_apply (k : Fin 255) :
    step (F := F) (ix1 k) = FloatOps.hostDivf (FloatOps.sitofp .f32 (BitVec.ofNat 32 k.val)) (Scalar.ofBits .f32 0x437F0000#32) := rfl

theorem firstKnots_apply (k : Fin 255) :
    firstKnots (F := F) (ix1 k)
      = FloatOps.addf (FloatOps.mulf (Scalar.ofBits .f32 0x00000000#32) (FloatOps.subf (Scalar.ofBits .f32 0x3F800000#32) (step (ix1 k))))
          (FloatOps.mulf (Scalar.ofBits .f32 0x3F800000#32) (step (ix1 k))) := rfl

/-- A knot before the last. -/
theorem knots_first (k : Fin 256) (hk : k.val < 255) : knots (F := F) (ix1 k) = firstKnots (ix1 ⟨k.val, hk⟩) := by
  unfold knots
  refine concatenate_pair_apply_left (α := F .f32) (t := S256) (s₁ := S255) (s₂ := S1) 0 _ _ _ _ rfl _ fun b => ?_
  match b with
  | ⟨0, _⟩ => rfl

/-- The last knot. -/
theorem knots_last (k : Fin 256) (hk : k.val = 255) : knots (F := F) (ix1 k) = Scalar.ofBits .f32 0x3F800000#32 := by
  unfold knots
  refine (concatenate_pair_apply_right (α := F .f32) (t := S256) (s₁ := S255) (s₂ := S1) 0 _ _ _ _ rfl rfl (ix1 (0 : Fin 1)) (fun b hb => ?_) ?_).trans rfl
  · match b with
    | ⟨0, _⟩ => exact absurd rfl hb
  · show 0 + 255 = k.val
    omega

theorem grid_apply (r : Fin 16) (k : Fin 256) : grid (F := F) (ix2 r k) = knots (ix1 k) := by
  unfold grid
  refine broadcastInDim_apply _ _ _ _ _ fun a => ?_
  match a with
  | ⟨0, _⟩ => rfl

theorem below_apply (x : FVec F S16x2097152 .f32) (r : Fin 16) (n : Fin 2097152) (k : Fin 256) :
    below x (ix3 r n k) = FloatOps.cmpf .ole (knots (F := F) (ix1 k)) (x (ix2 r n)) := by
  show FloatOps.cmpf .ole _ _ = _
  congr 1
  · refine (broadcastInDim_apply _ _ _ _ (ix3 r (0 : Fin 1) k) fun a => ?_).trans
      ((broadcastInDim_apply _ _ _ _ (ix2 r k) fun a => ?_).trans (grid_apply r k))
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix3 r n (0 : Fin 1)) fun a => ?_).trans (broadcastInDim_apply _ _ _ _ (ix2 r n) fun a => ?_)
    · match a with
      | ⟨0, _⟩ => rfl
      | ⟨1, _⟩ => rfl
      | ⟨2, _⟩ => rfl
    · match a with
      | ⟨0, _⟩ => rfl
      | ⟨1, _⟩ => rfl

/-- The sum over the last axis of a widened mask counts the set bits. -/
theorem reduce_count_last {a b N : ℕ} (hN : N < 2 ^ 32) (msk : IVec ⟨3, ![a, b, N]⟩ 1) (hw : 1 < 32)
    (h : Shape.ReducesTo ⟨3, ![a, b, N]⟩ [2] ⟨2, ![a, b]⟩) (hu : 0 < S_.numel) (p : Fin a) (q : Fin b) :
    (Host.reduce IntOp.addi (extui 32 msk hw) (constantI S_ 32 0#32) h hu (ix2 p q)).toNat
      = (Finset.univ.filter fun j : Fin N => msk (ix3 p q j) = 1#1).card := by
  classical
  have hval : ∀ i, (extui 32 msk hw i).toNat = if msk i = 1#1 then 1 else 0 := fun i => StableHlo.Predicate.toNat_setWidth_bit (msk i)
  have hdrop : ∀ i : Shape.Idx ⟨3, ![a, b, N]⟩, h.drop i = ix2 p q ↔ i 0 = p ∧ i 1 = q := by
    intro i
    have hv0 : (h.drop i 0 : ℕ) = i 0 := Shape.ReducesTo.drop_apply_val h i 0
    have hv1 : (h.drop i 1 : ℕ) = i 1 := Shape.ReducesTo.drop_apply_val h i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  have hback : ∀ i : Shape.Idx ⟨3, ![a, b, N]⟩, i 0 = p ∧ i 1 = q → ix3 p q (i 2) = i := fun i hi => by
    funext c
    match c with
    | ⟨0, _⟩ => exact hi.1.symm
    | ⟨1, _⟩ => exact hi.2.symm
    | ⟨2, _⟩ => rfl
  have hsum : ∑ i ∈ Finset.univ.filter (fun i : Shape.Idx ⟨3, ![a, b, N]⟩ => h.drop i = ix2 p q), (extui 32 msk hw i).toNat
      = (Finset.univ.filter (fun j : Fin N => msk (ix3 p q j) = 1#1)).card := by
    rw [Finset.card_filter]
    refine Finset.sum_bij' (fun i _ => i 2) (fun j _ => ix3 p q j) (fun _ _ => Finset.mem_univ _)
      (fun j _ => Finset.mem_filter.2 ⟨Finset.mem_univ _, (hdrop _).2 ⟨rfl, rfl⟩⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  rw [Host.reduce_eq_fold]
  show (Finset.fold IntOp.addi 0#32 (extui 32 msk hw) (Finset.univ.filter fun i : Shape.Idx ⟨3, ![a, b, N]⟩ => h.drop i = ix2 p q)).toNat = _
  rw [StableHlo.Predicate.toNat_fold_addi _ _ (by rw [hsum]; exact lt_of_le_of_lt (Finset.card_le_univ _) (by simpa using hN)), hsum]

/-- The count at an element: of the knots at or below it. -/
theorem count_apply (x : FVec F S16x2097152 .f32) (r : Fin 16) (n : Fin 2097152) :
    (count x (ix2 r n)).toNat
      = (Finset.univ.filter fun k : Fin 256 => FloatOps.cmpf .ole (knots (F := F) (ix1 k)) (x (ix2 r n)) = 1#1).card := by
  unfold count
  refine (reduce_count_last (by decide) (below x) natLt_1_32 reducesTo_S16x2097152x256_S16x2097152_d2 h_S_ r n).trans ?_
  refine congrArg Finset.card (Finset.filter_congr fun k _ => ?_)
  rw [below_apply]

theorem lower_apply (x : FVec F S16x2097152 .f32) (i : S16x2097152.Idx) :
    lower x i = IntOp.minsi 254#32 (IntOp.maxsi 0#32 (IntOp.subi (count x i) 1#32)) := rfl
theorem upper_apply (x : FVec F S16x2097152 .f32) (i : S16x2097152.Idx) : upper x i = IntOp.addi (lower x i) 1#32 := rfl

/-! ## A take along the rows -/

/-- Where the index of element `(r, n)` of a take is. -/
theorem wrapped_apply (I : IVec S16x2097152 32) (r : Fin 16) (n : Fin 2097152) (hI : (I (ix2 r n)).toNat < 256) :
    wrapped I (ix3 r n (0 : Fin 1)) = I (ix2 r n) := by
  unfold wrapped
  rw [shapeCast_apply _ _ _ (ix2 r n) (by
    rw [Shape.rowMajor_val_two, Shape.rowMajor_val_three]
    show r.val * 2097152 + n.val = (r.val * 2097152 + n.val) * 1 + 0
    omega)]
  have h0 : IntOp.cmpi .slt (I (ix2 r n)) 0#32 = 0#1 := by
    have : ¬ (I (ix2 r n)).slt 0#32 = true := by
      rw [BitVec.slt, decide_eq_true_eq, BitVec.toInt_eq_toNat_cond]
      split <;> simp <;> omega
    unfold IntOp.cmpi
    simp [this]
  show Scalar.select (IntOp.cmpi .slt (I (ix2 r n)) 0#32) _ _ = _
  rw [h0]
  rfl

/-- The record of a gather along axis 1, batched on axis 0, one element taken. -/
theorem gather_rows_apply (A : S16x256.Idx → F .f32) (J : IVec S16x2097152x1 32) (r : Fin 16) (n : Fin 2097152) :
    Host.gather gather_S16x256_S16x2097152x1_S16x2097152_n_1_0_0_1_2_11 A J (ix2 r n)
      = A (ix2 r ⟨min (J (ix3 r n (0 : Fin 1))).toInt.toNat 255, by omega⟩) := by
  unfold Host.gather
  congr 1
  funext a
  refine Fin.ext ?_
  show GatherDims.start _ (ix2 r n) J a + GatherDims.batchCoord _ (ix2 r n) a + GatherDims.offCoord _ (ix2 r n) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S16x256_S16x2097152x1_S16x2097152_n_1_0_0_1_2_11).operandBatchingDims from List.mem_singleton.mpr rfl)]
    rfl
  · rw [GatherDims.batchCoord_eq_zero _ _ _ (fun h => by simp [gather_S16x256_S16x2097152x1_S16x2097152_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S16x256_S16x2097152x1_S16x2097152_n_1_0_0_1_2_11).startIndexMap from List.mem_singleton.mpr rfl)]
    have hsi : (gather_S16x256_S16x2097152x1_S16x2097152_n_1_0_0_1_2_11).siIdx (ix2 r n)
        ⟨List.idxOf (1 : Fin 2) (gather_S16x256_S16x2097152x1_S16x2097152_n_1_0_0_1_2_11).startIndexMap,
          List.idxOf_lt_length_iff.2 (List.mem_singleton.mpr rfl)⟩ = ix3 r n (0 : Fin 1) := by
      funext b; refine Fin.ext ?_
      match b with
      | ⟨0, _⟩ => rfl
      | ⟨1, _⟩ => rfl
      | ⟨2, _⟩ => rfl
    rw [hsi]
    rfl

theorem select_one {α : Type} (a b : α) : Scalar.select 1#1 a b = a := rfl

/-- A take whose indices are all below 256 reads the row at its index. -/
theorem take_apply (A : FVec F S16x256 .f32) (I : IVec S16x2097152 32) (hI : ∀ i, (I i).toNat < 256) (r : Fin 16) (n : Fin 2097152) :
    take A I (ix2 r n) = A (ix2 r ⟨(I (ix2 r n)).toNat, hI _⟩) := by
  have htoInt : ∀ v : BitVec 32, v.toNat < 256 → v.toInt = v.toNat := fun v hv => by
    rw [BitVec.toInt_eq_toNat_cond, if_pos (by omega)]
  have hall : ∀ i, inRange (wrapped I) i = 1#1 := by
    intro i
    obtain ⟨r', n', z, rfl⟩ : ∃ r' n' z, i = ix3 r' n' z := ⟨i 0, i 1, i 2, eq_ix3 i⟩
    obtain rfl : z = 0 := Subsingleton.elim _ _
    show IntOp.andi (IntOp.cmpi .sge (wrapped I _) 0#32) (IntOp.cmpi .sle (wrapped I _) 255#32) = 1#1
    rw [wrapped_apply I r' n' (hI _)]
    have h := hI (ix2 r' n')
    have h1 : IntOp.cmpi .sge (I (ix2 r' n')) 0#32 = 1#1 := by
      have : (0#32).sle (I (ix2 r' n')) = true := by rw [BitVec.sle, decide_eq_true_eq, htoInt _ h]; simp
      simp [IntOp.cmpi, this]
    have h2 : IntOp.cmpi .sle (I (ix2 r' n')) 255#32 = 1#1 := by
      have : (I (ix2 r' n')).sle 255#32 = true := by
        rw [BitVec.sle, decide_eq_true_eq, htoInt _ h]
        show ((I (ix2 r' n')).toNat : ℤ) ≤ 255
        omega
      simp [IntOp.cmpi, this]
    rw [h1, h2]
    rfl
  have hone : Host.reduce IntOp.andi (inRange (wrapped I)) (constantI S_ 1 1#1) reducesTo_S16x2097152x1_S16x2097152_d2 h_S_ (ix2 r n) = 1#1 :=
    Host.reduce_andi_one _ _ _ _ _ rfl hall
  unfold take
  rw [select_apply, hone]
  refine Eq.trans (select_one _ _) ?_
  refine (gather_rows_apply A (wrapped I) r n).trans ?_
  refine congrArg A (congrArg (ix2 r) (Fin.ext ?_))
  show min (wrapped I (ix3 r n (0 : Fin 1))).toInt.toNat 255 = (I (ix2 r n)).toNat
  have h := hI (ix2 r n)
  rw [wrapped_apply I r n h, htoInt _ h]
  omega

/-! ## The arguments' layouts -/

/-- Row `r` of the image is image `r / 4`. -/
theorem image_apply (x : FVec F S4x1x128x128x128 .f32) (r : Fin 16) (n : Fin 2097152) :
    image x (ix2 r n) = x (ix5 (⟨r.val / 4, by omega⟩ : Fin 4) (0 : Fin 1) (⟨n.val / 16384, by omega⟩ : Fin 128)
      (⟨n.val / 128 % 128, by omega⟩ : Fin 128) (⟨n.val % 128, by omega⟩ : Fin 128)) := by
  unfold image
  refine (shapeCast_apply _ _ _ (ix5 (⟨r.val / 4, by omega⟩ : Fin 4) (⟨r.val % 4, by omega⟩ : Fin 4) (⟨n.val / 16384, by omega⟩ : Fin 128)
      (⟨n.val / 128 % 128, by omega⟩ : Fin 128) (⟨n.val % 128, by omega⟩ : Fin 128)) ?_).trans (broadcastInDim_apply _ _ _ _ _ fun a => ?_)
  · rw [Shape.rowMajor_val_two, Shape.rowMajor_val_five]
    show ((((r.val / 4) * 4 + r.val % 4) * 128 + n.val / 16384) * 128 + n.val / 128 % 128) * 128 + n.val % 128 = r.val * 2097152 + n.val
    omega
  · match a with
    | ⟨0, _⟩ => rfl
    | ⟨1, _⟩ => rfl
    | ⟨2, _⟩ => rfl
    | ⟨3, _⟩ => rfl
    | ⟨4, _⟩ => rfl

/-- Row `r` of the tables. -/
theorem rows_apply (w : IVec S4x4x256 32) (r : Fin 16) (k : Fin 256) :
    rows w (ix2 r k) = w (ix3 (⟨r.val / 4, by omega⟩ : Fin 4) (⟨r.val % 4, by omega⟩ : Fin 4) k) := by
  unfold rows
  refine shapeCast_apply _ _ _ _ ?_
  rw [Shape.rowMajor_val_two, Shape.rowMajor_val_three]
  show ((r.val / 4) * 4 + r.val % 4) * 256 + k.val = r.val * 256 + k.val
  omega

theorem starts_apply (w : IVec S4x4x256 32) (r : Fin 16) (k : Fin 256) :
    starts (F := F) w (ix2 r k) = FloatOps.ofBits .f32 (IntOp.shli .vector (rows w (ix2 r k)) 16#32) := by
  show FloatOps.ofBits .f32 (IntOp.shli .host (rows w (ix2 r k)) 16#32) = _
  rw [shli_host]
theorem rises_apply (w : IVec S4x4x256 32) (r : Fin 16) (k : Fin 256) :
    rises (F := F) w (ix2 r k) = FloatOps.ofBits .f32 (IntOp.andi (rows w (ix2 r k)) 4294901760#32) := rfl

end Cert.Proof.Ref

end
-- ==== Proof.Segment.lean ====
/-
  One element over the extended reals. The reference finds an element's segment by counting the knots `k / 255` at or
  below it; the kernel scales the element by 255 and takes the whole part. Both keep the answer between 0 and 254, and
  there they agree for every extended real. And from a segment's left end, dividing the rise by the distance of two
  knots and multiplying by the distance from the left knot is multiplying the rise by what is left of the scaled
  element.
-/
module

public import proofs.«01_k».proof.Proof.RefValue
public import proofs.«01_k».proof.Proof.Value
public import Idealize.ShloMosaic.Lib.IdealHost

@[expose] public section

noncomputable section

namespace Cert.Proof.Ref

open Cert.ReferenceIdeal Cert.ReferenceIdeal.Gen
open Idealize.ShloMosaic Idealize.ShloMosaic.ValueIdx

/-! ## The literals and the knots -/

/-- The f32 pattern `0x437F0000` is 255. -/
theorem ofBits_255 : Ideal.ofBits .f32 0x437F0000#32 = ((255 : ℝ) : EReal) := by
  simp [Ideal.ofBits, Ideal.ieee, -EReal.coe_mul]; norm_num

theorem toInt_small (v : BitVec 32) (h : v.toNat < 2 ^ 31) : v.toInt = v.toNat := by
  rw [BitVec.toInt_eq_toNat_cond, if_pos (by omega)]

/-- A small word as a float is its number. -/
theorem sitofp_small (v : BitVec 32) (h : v.toNat < 2 ^ 31) : FloatOps.sitofp (F := Ideal) .f32 v = ((v.toNat : ℝ) : EReal) := by
  show ((v.toInt : ℝ) : EReal) = _
  rw [toInt_small v h]
  norm_cast

theorem step_ideal (k : Fin 255) : step (F := Ideal) (ix1 k) = (((k.val : ℝ) / 255 : ℝ) : EReal) := by
  rw [step_apply, sitofp_small _ (by rw [BitVec.toNat_ofNat]; have := k.isLt; omega), BitVec.toNat_ofNat,
    Nat.mod_eq_of_lt (by have := k.isLt; omega)]
  show Ideal.div _ (Ideal.ofBits .f32 0x437F0000#32) = _
  rw [ofBits_255, Ideal.div_coe (by norm_num), ← EReal.coe_mul]
  congr 1
  ring

/-- Knot `k` is `k / 255`. -/
theorem knots_ideal (k : Fin 256) : knots (F := Ideal) (ix1 k) = (((k.val : ℝ) / 255 : ℝ) : EReal) := by
  by_cases hk : k.val < 255
  · rw [knots_first k hk, firstKnots_apply, step_ideal]
    show Ideal.ofBits .f32 0x00000000#32 * (Ideal.ofBits .f32 0x3F800000#32 - _) + Ideal.ofBits .f32 0x3F800000#32 * _ = _
    rw [Ideal.ofBits_zero_f32, Ideal.ofBits_one_f32, zero_mul, one_mul, zero_add]
  · have h : k.val = 255 := by have := k.isLt; omega
    rw [knots_last k h]
    show Ideal.ofBits .f32 0x3F800000#32 = _
    rw [Ideal.ofBits_one_f32, h]
    norm_num

theorem scaled_ideal (x : EReal) : Sc.scaled (F := Ideal) x = x * ((255 : ℝ) : EReal) := by
  show x * Ideal.ofBits .f32 0x437F0000#32 = _
  rw [ofBits_255]

/-! ## Which segment -/

/-- A word kept between 0 and 254, as a number. -/
theorem clamp_toNat (v : BitVec 32) : (IntOp.minsi 254#32 (IntOp.maxsi 0#32 v)).toNat = (max 0 (min 254 v.toInt)).toNat := by
  have h0 : (0#32).toInt = 0 := rfl
  have h254 : (254#32).toInt = 254 := rfl
  unfold IntOp.minsi IntOp.maxsi
  simp only [BitVec.slt, decide_eq_true_eq]
  by_cases h1 : v.toInt < (0#32).toInt
  · rw [if_pos h1]
    rw [h0] at h1
    rw [h0, h254, if_neg (by omega)]
    show 0 = _
    omega
  · rw [if_neg h1]
    rw [h0] at h1
    by_cases h2 : (254#32).toInt < v.toInt
    · rw [if_pos h2]
      rw [h254] at h2
      show 254 = _
      omega
    · rw [if_neg h2]
      rw [h254] at h2
      have := BitVec.toInt_eq_toNat_cond v
      split_ifs at this <;> omega

/-- How many of the 256 knots are at or below a real. -/
theorem card_knots (s : ℝ) : ((Finset.univ.filter fun k : Fin 256 => (k.val : ℝ) ≤ s).card : ℤ) = max 0 (min 256 (⌊s⌋ + 1)) := by
  have h : (Finset.univ.filter fun k : Fin 256 => (k.val : ℝ) ≤ s)
      = Finset.univ.filter fun k : Fin 256 => k.val < (max 0 (min 256 (⌊s⌋ + 1))).toNat := by
    refine Finset.filter_congr fun k _ => ?_
    have hk := k.isLt
    rw [show ((k.val : ℝ) ≤ s) ↔ ((k.val : ℤ) ≤ ⌊s⌋) by rw [Int.le_floor]; norm_cast]
    omega
  rw [h, Fin.card_filter_val_lt]
  omega

/-- The count, over the extended reals. -/
theorem count_ideal (x : FVec Ideal S16x2097152 .f32) (r : Fin 16) (n : Fin 2097152) :
    (count x (ix2 r n)).toNat = (Finset.univ.filter fun k : Fin 256 => (((k.val : ℝ) / 255 : ℝ) : EReal) ≤ x (ix2 r n)).card := by
  rw [count_apply]
  refine congrArg Finset.card (Finset.filter_congr fun k _ => ?_)
  rw [knots_ideal]
  show BitVec.ofBool (decide ((((k.val : ℝ) / 255 : ℝ) : EReal) ≤ x (ix2 r n))) = 1#1 ↔ _
  by_cases h : (((k.val : ℝ) / 255 : ℝ) : EReal) ≤ x (ix2 r n)
  · simp [h]
  · simp [h]

/-- A whole part that fits in a signed word. -/
theorem toInt_ofInt_fit (z : ℤ) (h1 : -2147483648 ≤ z) (h2 : z ≤ 2147483647) : (BitVec.ofInt 32 z).toInt = z := by
  rw [BitVec.toInt_ofInt]
  unfold Int.bmod
  norm_num
  split_ifs <;> omega

/-- A small count less one. -/
theorem toInt_pred (c : BitVec 32) (h : c.toNat ≤ 256) : (c - 1#32).toInt = (c.toNat : ℤ) - 1 := by
  have h1 : (1#32).toInt = 1 := rfl
  rw [BitVec.toInt_sub, h1, toInt_small c (by omega)]
  unfold Int.bmod
  norm_num
  split_ifs <;> omega

/-- Counting the knots at or below an extended real, and scaling it and taking the whole part, agree between 0 and 254. -/
theorem clamped_eq (e : EReal) :
    (max 0 (min 254 (((Finset.univ.filter fun k : Fin 256 => (((k.val : ℝ) / 255 : ℝ) : EReal) ≤ e).card : ℤ) - 1))).toNat
      = (max 0 (min 254 (Ideal.fptosi 32 (e * ((255 : ℝ) : EReal))).toInt)).toNat := by
  unfold Ideal.fptosi
  induction e with
  | bot =>
    rw [EReal.bot_mul_coe_of_pos (by norm_num), Ideal.toIntClamped_bot, toInt_ofInt_fit _ (by norm_num) (by norm_num)]
    simp
  | top =>
    rw [EReal.top_mul_coe_of_pos (by norm_num), Ideal.toIntClamped_top, toInt_ofInt_fit _ (by norm_num) (by norm_num)]
    simp
  | coe t =>
    rw [← EReal.coe_mul, Ideal.toIntClamped_coe]
    have hcard : (Finset.univ.filter fun k : Fin 256 => (((k.val : ℝ) / 255 : ℝ) : EReal) ≤ ((t : ℝ) : EReal)).card
        = (Finset.univ.filter fun k : Fin 256 => (k.val : ℝ) ≤ t * 255).card := by
      refine congrArg Finset.card (Finset.filter_congr fun k _ => ?_)
      rw [EReal.coe_le_coe_iff, div_le_iff₀ (by norm_num)]
    rw [hcard, card_knots]
    generalize t * 255 = s
    rw [toInt_ofInt_fit _ (by norm_num) (by norm_num)]
    norm_num
    split_ifs with hs
    · have : 0 ≤ ⌊s⌋ := Int.floor_nonneg.2 hs
      omega
    · have h1 : ⌊s⌋ < 0 := Int.floor_lt.2 (by push_cast; linarith [not_le.1 hs])
      have h2 : ⌈s⌉ ≤ 0 := Int.ceil_le.2 (by push_cast; linarith [not_le.1 hs])
      omega

/-- The segment the reference counts is the one the kernel computes. -/
theorem lower_eq_cell (x : FVec Ideal S16x2097152 .f32) (r : Fin 16) (n : Fin 2097152) :
    lower x (ix2 r n) = Sc.cell (F := Ideal) (x (ix2 r n)) := by
  apply BitVec.eq_of_toNat_eq
  rw [lower_apply, clamp_toNat]
  unfold Sc.cell
  rw [clamp_toNat, scaled_ideal]
  have hc := count_ideal x r n
  have hle : (Finset.univ.filter fun k : Fin 256 => (((k.val : ℝ) / 255 : ℝ) : EReal) ≤ x (ix2 r n)).card ≤ 256 :=
    (Finset.card_le_univ _).trans (by simp)
  have hsub : (IntOp.subi (count x (ix2 r n)) 1#32).toInt = ((count x (ix2 r n)).toNat : ℤ) - 1 := toInt_pred _ (by omega)
  rw [hsub, hc]
  show _ = (max 0 (min 254 (Ideal.fptosi 32 (x (ix2 r n) * ((255 : ℝ) : EReal))).toInt)).toNat
  exact clamped_eq (x (ix2 r n))

/-! ## The value within a segment -/

/-- What is left of the scaled element is the distance from the segment's left knot, times 255. -/
theorem rest_eq (e : EReal) (k : ℝ) : ((255 : ℝ) : EReal) * (e - ((k / 255 : ℝ) : EReal)) = e * ((255 : ℝ) : EReal) - (k : EReal) := by
  induction e with
  | bot =>
    rw [EReal.bot_mul_coe_of_pos (by norm_num), EReal.bot_sub, EReal.bot_sub, EReal.coe_mul_bot_of_pos (by norm_num)]
  | top =>
    rw [EReal.top_mul_coe_of_pos (by norm_num), EReal.top_sub_coe, EReal.top_sub_coe, EReal.coe_mul_top_of_pos (by norm_num)]
  | coe t =>
    rw [← EReal.coe_mul, ← EReal.coe_sub, ← EReal.coe_sub, ← EReal.coe_mul]
    congr 1
    ring

/-- Dividing by the distance of two neighbouring knots is multiplying by 255. -/
theorem slope_eq (d e : EReal) (k : ℝ) :
    Ideal.div d ((((k + 1) / 255 : ℝ) : EReal) - ((k / 255 : ℝ) : EReal)) * (e - ((k / 255 : ℝ) : EReal))
      = d * (e * ((255 : ℝ) : EReal) - (k : EReal)) := by
  rw [← EReal.coe_sub, show (k + 1) / 255 - k / 255 = (1 / 255 : ℝ) by ring, Ideal.div_coe (by norm_num), ← rest_eq, mul_assoc]
  norm_num

end Cert.Proof.Ref

end
-- ==== Proof.Equation.lean ====
/-
  The kernel's result and the reference's are the same array over the extended reals: element by element, both add
  the low half of the same table word to its high half times the same distance (Segment.lean), and the two programs'
  layouts of the arguments and of the result are the same row-major order.
-/
module

public import proofs.«01_k».proof.Proof.Segment
public import proofs.«01_k».proof.Proof.Launch

@[expose] public section

noncomputable section

namespace Cert.Proof.Ref

open Cert.ReferenceIdeal Cert.ReferenceIdeal.Gen
open Idealize.ShloMosaic Idealize.ShloMosaic.ValueIdx

/-- The index after a small one. -/
theorem succ_toNat (v : BitVec 32) (h : v.toNat < 255) : (IntOp.addi v 1#32).toNat = v.toNat + 1 := by
  show (v + 1#32).toNat = _
  rw [BitVec.toNat_add, show (1#32).toNat = 1 from rfl]
  omega

/-- The line through a segment, from any indices of its two knots. -/
def lineAt {F : FTy → Type} [FloatOps F] (x : FVec F S16x2097152 .f32) (w : IVec S4x4x256 32) (L U : IVec S16x2097152 32) : FVec F S16x2097152 .f32 :=
  addf (take (starts w) L) (mulf (Host.divf (take (rises w) L) (subf (take grid U) (take grid L))) (subf x (take grid L)))

theorem lineAt_eq {F : FTy → Type} [FloatOps F] (x : FVec F S16x2097152 .f32) (w : IVec S4x4x256 32) (L U : IVec S16x2097152 32) (i : S16x2097152.Idx) :
    lineAt x w L U i
      = FloatOps.addf (take (starts w) L i)
          (FloatOps.mulf (FloatOps.hostDivf (take (rises w) L i) (FloatOps.subf (take grid U i) (take grid L i))) (FloatOps.subf (x i) (take grid L i))) := rfl

theorem lineAt_apply (x : FVec Ideal S16x2097152 .f32) (w : IVec S4x4x256 32) (L U : IVec S16x2097152 32)
    (hL : ∀ i, (L i).toNat < 255) (hU : ∀ i, (U i).toNat = (L i).toNat + 1) (r : Fin 16) (n : Fin 2097152) (k : ℕ) (hk : (L (ix2 r n)).toNat = k) (hk' : k < 256) :
    lineAt x w L U (ix2 r n)
      = (FloatOps.ofBits (F := Ideal) .f32 (IntOp.shli .vector (rows w (ix2 r ⟨k, hk'⟩)) 16#32) : EReal)
        + (FloatOps.ofBits (F := Ideal) .f32 (IntOp.andi (rows w (ix2 r ⟨k, hk'⟩)) 4294901760#32) : EReal)
          * ((x (ix2 r n) : EReal) * ((255 : ℝ) : EReal) - ((k : ℝ) : EReal)) := by
  have hl : ∀ i, (L i).toNat < 256 := fun i => (hL i).trans (by decide)
  have hu : ∀ i, (U i).toNat < 256 := fun i => by have := hL i; have := hU i; omega
  have h0 : ∀ (A : FVec Ideal S16x256 .f32), take A L (ix2 r n) = A (ix2 r ⟨k, hk'⟩) := fun A => by
    rw [take_apply A L hl]; subst hk; rfl
  have hs : k + 1 < 256 := by have := hL (ix2 r n); omega
  have h1 : ∀ (A : FVec Ideal S16x256 .f32), take A U (ix2 r n) = A (ix2 r ⟨k + 1, hs⟩) := fun A => by
    rw [take_apply A U hu]
    refine congrArg A (congrArg (ix2 r) ?_)
    rw [Fin.mk.injEq, hU, hk]
  rw [lineAt_eq, Ideal.addf_def, Ideal.mulf_def, Ideal.hostDivf_def, Ideal.subf_def, Ideal.subf_def]
  rw [h0, h0, h0, h1, grid_apply, grid_apply, knots_ideal, knots_ideal, starts_apply, rises_apply]
  rw [show ((⟨k + 1, hs⟩ : Fin 256).val : ℝ) = (k : ℝ) + 1 by push_cast; rfl, slope_eq]

/-- The kernel's line, over the extended reals. -/
theorem lin_ideal (v : EReal) (w : BitVec 32) :
    Sc.lin (F := Ideal) v w = (FloatOps.ofBits (F := Ideal) .f32 (IntOp.shli .vector w 16#32) : EReal)
      + (FloatOps.ofBits (F := Ideal) .f32 (IntOp.andi w 4294901760#32) : EReal)
        * (v * ((255 : ℝ) : EReal) - (((Sc.cell (F := Ideal) v).toNat : ℝ) : EReal)) := by
  unfold Sc.lin Sc.frac
  rw [sitofp_small _ ((Sc.cell_lt _).trans (by decide)), scaled_ideal]
  rfl

/-- An element of the reference's transfer is the kernel's, of the same word. -/
theorem lines_ideal (x : FVec Ideal S16x2097152 .f32) (w : IVec S4x4x256 32) (r : Fin 16) (n : Fin 2097152) :
    lines x w (ix2 r n)
      = Sc.lin (F := Ideal) (x (ix2 r n)) (rows w (ix2 r ⟨(Sc.cell (F := Ideal) (x (ix2 r n))).toNat, (Sc.cell_lt _).trans (by decide)⟩)) := by
  rw [lin_ideal]
  exact lineAt_apply x w (lower x) (upper x) (fun i => by rw [lower_apply]; exact Sc.clamp_lt _)
    (fun i => by rw [upper_apply]; exact succ_toNat _ (by rw [lower_apply]; exact Sc.clamp_lt _)) r n _ (by rw [lower_eq_cell]) _

end Cert.Proof.Ref

namespace Cert.Proof.Sc

open Cert.KernelIdeal Cert.KernelIdeal.Gen
open Idealize.ShloMosaic Idealize.ShloMosaic.ValueIdx

variable {F : FTy → Type} [FloatOps F]

variable (m : (ℓ : Loc nD τ sig) → Buf (Elt F) ℓ) (d : Dev nD)

theorem xOf_eq : xOf m d = shapeCast S8388608 (m (a0Loc d) : S4x1x128x128x128.Idx → Elt F .f32) shapeCasts_S4x1x128x128x128_S8388608 := rfl
theorem wOf_eq : wOf m d = shapeCast S4096 (m (a1Loc d) : S4x4x256.Idx → Elt F .i32) shapeCasts_S4x4x256_S4096 := rfl
theorem result_eq : V4 m d r' = shapeCast S4x4x128x128x128 (G (xOf m d) (wOf m d)) shapeCasts_S33554432_S4x4x128x128x128 := by
  rw [← V3_o]; rfl

/-- Where element `i` of the flat result is, from its coordinates. -/
def At (i : S33554432.Idx) (a b : Fin 4) (p q s : Fin 128) : Prop :=
  (i 0).val = (((a.val * 4 + b.val) * 128 + p.val) * 128 + q.val) * 128 + s.val

/-- The flattened image, where the result's element comes from. -/
theorem flat_image {α : Type} (X : S4x1x128x128x128.Idx → α) (i : S33554432.Idx) (a b : Fin 4) (p q s : Fin 128) (hi : At i a b p q s) :
    shapeCast S8388608 X shapeCasts_S4x1x128x128x128_S8388608 (srcIx i) = X (ix5 a (0 : Fin 1) p q s) := by
  refine shapeCast_apply _ _ _ _ ?_
  rw [Shape.rowMajor_val_one, Shape.rowMajor_val_five]
  show (((a.val * 1 + 0) * 128 + p.val) * 128 + q.val) * 128 + s.val = (i 0).val / 8388608 * 2097152 + (i 0).val % 2097152
  rw [hi]
  omega

/-- The flattened tables, where the result's element looks. -/
theorem flat_words {α : Type} (W : S4x4x256.Idx → α) (i : S33554432.Idx) (a b : Fin 4) (p q s : Fin 128) (hi : At i a b p q s) (k : ℕ) (hk : k < 256) :
    shapeCast S4096 W shapeCasts_S4x4x256_S4096 (wordIx i k hk) = W (ix3 a b ⟨k, hk⟩) := by
  refine shapeCast_apply _ _ _ _ ?_
  rw [Shape.rowMajor_val_one, Shape.rowMajor_val_three]
  show (a.val * 4 + b.val) * 256 + k = (i 0).val / 2097152 * 256 + k
  rw [hi]
  omega

/-- An element of the flat result, from what its image element is. -/
theorem G_apply (x : S8388608.Idx → Elt F .f32) (w : S4096.Idx → Elt F .i32) (i : S33554432.Idx) (v : F .f32) (hv : x (srcIx i) = v) :
    G x w i = lin (F := F) v (w (wordIx i (cell (F := F) v).toNat ((cell_lt _).trans (by decide)))) := by
  subst hv; rfl

/-- An element of the kernel's result, by its coordinates. -/
theorem result_apply (X : S4x1x128x128x128.Idx → Elt F .f32) (W : S4x4x256.Idx → Elt F .i32) (a b : Fin 4) (p q s : Fin 128) :
    shapeCast S4x4x128x128x128
        (G (shapeCast S8388608 X shapeCasts_S4x1x128x128x128_S8388608) (shapeCast S4096 W shapeCasts_S4x4x256_S4096)) shapeCasts_S33554432_S4x4x128x128x128
        (ix5 a b p q s)
      = lin (F := F) (X (ix5 a (0 : Fin 1) p q s))
          (W (ix3 a b ⟨(cell (F := F) (X (ix5 a (0 : Fin 1) p q s))).toNat, (cell_lt _).trans (by decide)⟩)) := by
  refine (shapeCast_apply _ _ _ (ix1 (⟨(((a.val * 4 + b.val) * 128 + p.val) * 128 + q.val) * 128 + s.val, by omega⟩ : Fin 33554432)) ?_).trans ?_
  · rw [Shape.rowMajor_val_one, Shape.rowMajor_val_five]
    rfl
  · refine (G_apply _ _ _ _ (flat_image X _ a b p q s (by unfold At; rfl))).trans ?_
    exact congrArg (lin (F := F) _) (flat_words W _ a b p q s (by unfold At; rfl) _ _)

end Cert.Proof.Sc

namespace Cert.Proof

open Idealize.ShloMosaic Idealize.ShloMosaic.ValueIdx

/-- From equal arguments the two programs' results are equal over the extended reals. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (d : Dev Cert.KernelIdeal.nD) (c : Dev Cert.ReferenceIdeal.nD)
    (h0 : (m' ((c.tc : Thread Cert.ReferenceIdeal.nD Cert.ReferenceIdeal.τ).loc Cert.ReferenceIdeal.main_arg0) : Cert.ReferenceIdeal.S4x1x128x128x128.Idx → EReal) = m (Sc.a0Loc d))
    (h1 : (m' ((c.tc : Thread Cert.ReferenceIdeal.nD Cert.ReferenceIdeal.τ).loc Cert.ReferenceIdeal.main_arg1) : Cert.ReferenceIdeal.S4x4x256.Idx → BitVec 32) = m (Sc.a1Loc d)) :
    (Cert.ReferenceIdeal.Value.res_main_v32 m' c : Cert.ReferenceIdeal.S4x4x128x128x128.Idx → EReal) = Sc.V4 m d Sc.r' := by
  funext y
  obtain ⟨a, b, p, q, s, rfl⟩ : ∃ (a b : Fin 4) (p q s : Fin 128), y = ix5 a b p q s := ⟨y 0, y 1, y 2, y 3, y 4, eq_ix5 y⟩
  rw [Ref.res_eq, h0, h1, Sc.result_eq, Sc.xOf_eq, Sc.wOf_eq]
  refine Eq.trans ?_ (Sc.result_apply (F := Ideal) _ _ a b p q s).symm
  refine (shapeCast_apply _ _ _ (ix2 (⟨a.val * 4 + b.val, by omega⟩ : Fin 16) (⟨(p.val * 128 + q.val) * 128 + s.val, by omega⟩ : Fin 2097152)) ?_).trans ?_
  · rw [Shape.rowMajor_val_two, Shape.rowMajor_val_five]
    show (a.val * 4 + b.val) * 2097152 + ((p.val * 128 + q.val) * 128 + s.val) = (((a.val * 4 + b.val) * 128 + p.val) * 128 + q.val) * 128 + s.val
    omega
  rw [Ref.lines_ideal, Ref.image_apply, Ref.rows_apply]
  have ea : (⟨(a.val * 4 + b.val) / 4, by omega⟩ : Fin 4) = a := Fin.ext (by show (a.val * 4 + b.val) / 4 = a.val; omega)
  have eb : (⟨(a.val * 4 + b.val) % 4, by omega⟩ : Fin 4) = b := Fin.ext (by show (a.val * 4 + b.val) % 4 = b.val; omega)
  have ep : (⟨((p.val * 128 + q.val) * 128 + s.val) / 16384, by omega⟩ : Fin 128) = p :=
    Fin.ext (by show ((p.val * 128 + q.val) * 128 + s.val) / 16384 = p.val; omega)
  have eq : (⟨((p.val * 128 + q.val) * 128 + s.val) / 128 % 128, by omega⟩ : Fin 128) = q :=
    Fin.ext (by show ((p.val * 128 + q.val) * 128 + s.val) / 128 % 128 = q.val; omega)
  have es : (⟨((p.val * 128 + q.val) * 128 + s.val) % 128, by omega⟩ : Fin 128) = s :=
    Fin.ext (by show ((p.val * 128 + q.val) * 128 + s.val) % 128 = s.val; omega)
  simp only [ea, eb, ep, eq, es]

end Cert.Proof

end
-- ==== Proof.Packing.lean ====
/-
  The packing of the tables, bit for bit. A word holds a table's entry, rounded to bf16, in its low half and the rise to
  the next entry, rounded to bf16, in its high half; the kernel reads the low half shifted up and the high half masked.
  Rounding leaves an f32 word's low half empty, so what is read is exactly what was rounded.
-/
module

public import proofs.«01_k».proof.Proof.Gen.Segments
public import proofs.«01_k».proof.Proof.Gen.SegmentsReference
public import Idealize.ShloMosaic.PureOps.BitExact
public import Idealize.ShloMosaic.Lib.ValueLayout
public import Idealize.ShloMosaic.Lib.ValueIdxCore

@[expose] public section

noncomputable section

namespace Cert.Proof.Packing

open Cert.Segments Cert.Segments.Gen
open Idealize.ShloMosaic Idealize.ShloMosaic.ValueIdx

/-! ## One word -/

/-- A word rounded to bf16 has an empty low half. -/
theorem rounded_low (w : BitVec 32) (i : ℕ) (hi : i < 16) : (reducePrecision32 8 7 w).getLsbD i = false := by
  have hand : ∀ (a m : BitVec 32), (∀ j : Fin 16, m.getLsbD j = false) → (a &&& m).getLsbD i = false := fun a m hm => by
    rw [BitVec.getLsbD_and, hm ⟨i, hi⟩, Bool.and_false]
  unfold reducePrecision32
  dsimp only
  split
  · have hn : ∀ j : Fin 16, (0x7FC00000#32).getLsbD j = false := by decide
    exact hn ⟨i, hi⟩
  · split
    · exact hand _ _ (by decide)
    · exact hand _ _ (by decide)

/-- Packing two words with empty low halves, the low half of the pack is the first. -/
theorem pack_low (a b : BitVec 32) (ha : ∀ i, i < 16 → a.getLsbD i = false) :
    (a >>> 16#32 ||| (b >>> 16#32) <<< 16#32) <<< 16#32 = a := by
  apply BitVec.eq_of_getLsbD_eq
  intro i hi
  have h16 : (16#32).toNat = 16 := rfl
  simp only [BitVec.shiftLeft_eq', BitVec.ushiftRight_eq', h16, BitVec.getLsbD_shiftLeft, BitVec.getLsbD_or, BitVec.getLsbD_ushiftRight]
  by_cases h : i < 16
  · rw [ha i h]; simp [h]
  · have e : 16 + (i - 16) = i := by omega
    have h' : i - 16 < 16 := by omega
    rw [e]; simp [h, hi, h']

/-- The high half of the pack is the second. -/
theorem pack_high (a b : BitVec 32) (hb : ∀ i, i < 16 → b.getLsbD i = false) :
    (a >>> 16#32 ||| (b >>> 16#32) <<< 16#32) &&& 4294901760#32 = b := by
  apply BitVec.eq_of_getLsbD_eq
  intro i hi
  have h16 : (16#32).toNat = 16 := rfl
  have hmask : ∀ j : Fin 32, (4294901760#32).getLsbD j = decide (16 ≤ j.val) := by decide
  have hm : (4294901760#32).getLsbD i = decide (16 ≤ i) := hmask ⟨i, hi⟩
  simp only [BitVec.shiftLeft_eq', BitVec.ushiftRight_eq', h16, BitVec.getLsbD_and, hm, BitVec.getLsbD_shiftLeft, BitVec.getLsbD_or, BitVec.getLsbD_ushiftRight]
  by_cases h : i < 16
  · rw [hb i h]; simp [h]
  · have e : 16 + (i - 16) = i := by omega
    have ha : a.getLsbD (16 + i) = false := BitVec.getLsbD_of_ge _ _ (by omega)
    have h' : 16 ≤ i := by omega
    rw [e, ha]; simp [h, hi, h']

/-! ## The tables -/

variable (x : FVec Bits S4x4x256 .f32)

/-- The tables, one row each. -/
def table : FVec Bits S16x256 .f32 := shapeCast S16x256 x shapeCasts_S4x4x256_S16x256

/-- Every entry's next one; the last entry's is itself. -/
def next : FVec Bits S16x256 .f32 :=
  concatenate S16x256 1 [⟨S16x255, extractStridedSlice S16x255 ![0, 1] (table x) slices_S16x256_S16x255_0_1⟩,
    ⟨S16x1, extractStridedSlice S16x1 ![0, 255] (table x) slices_S16x256_S16x1_0_255⟩] concatenates_S16x255_S16x1_S16x256_d1

/-- The same, of the tables as they come. -/
def nextRef : FVec Bits S4x4x256 .f32 :=
  concatenate S4x4x256 2 [⟨SegmentsReference.S4x4x255, extractStridedSlice SegmentsReference.S4x4x255 ![0, 0, 1] x SegmentsReference.Gen.slices_S4x4x256_S4x4x255_0_0_1⟩,
    ⟨SegmentsReference.S4x4x1, extractStridedSlice SegmentsReference.S4x4x1 ![0, 0, 255] x SegmentsReference.Gen.slices_S4x4x256_S4x4x1_0_0_255⟩]
    SegmentsReference.Gen.concatenates_S4x4x255_S4x4x1_S4x4x256_d2

/-- An f32 array's words rounded to bf16 and moved down to their low half. -/
def half (y : FVec Bits S16x256 .f32) : IVec S16x256 32 :=
  Host.shrui (bitcastToInt (Host.reducePrecision 8 7 y)) (broadcastInDim S16x256 ![] bcast_S_S16x256 (constantI S_ 32 16#32))

/-- The packed words, in one row. -/
def words : IVec S4096 32 :=
  shapeCast S4096 (id (ori (half (table x))
    (Host.shli (half (subf (next x) (table x))) (broadcastInDim S16x256 ![] bcast_S_S16x256 (constantI S_ 32 16#32))))) shapeCasts_S16x256_S4096

/-- The low halves read as floats. -/
def lows : FVec Bits S4x4x256 .f32 :=
  shapeCast S4x4x256 (bitcastToFloat (F := Bits) .f32 (Host.shli (words x) (broadcastInDim S4096 ![] bcast_S_S4096 (constantI S_ 32 16#32)))) shapeCasts_S4096_S4x4x256
/-- The high halves read as floats. -/
def highs : FVec Bits S4x4x256 .f32 :=
  shapeCast S4x4x256 (bitcastToFloat (F := Bits) .f32 (andi (words x) (broadcastInDim S4096 ![] bcast_S_S4096 (constantI S_ 32 4294901760#32)))) shapeCasts_S4096_S4x4x256

/-! ## At one index -/

/-- The row of a table. -/
def rowOf (b c : Fin 4) : Fin 16 := ⟨b.val * 4 + c.val, by omega⟩
/-- The place of a table's entry. -/
def placeOf (b c : Fin 4) (k : Fin 256) : Fin 4096 := ⟨b.val * 1024 + c.val * 256 + k.val, by omega⟩

theorem table_apply (b c : Fin 4) (k : Fin 256) : table x (ix2 (rowOf b c) k) = x (ix3 b c k) :=
  shapeCast_apply _ _ _ _ (by
    rw [Shape.rowMajor_val_three, Shape.rowMajor_val_two]
    show (b.val * 4 + c.val) * 256 + k.val = (b.val * 4 + c.val) * 256 + k.val
    rfl)

theorem next_apply (b c : Fin 4) (k : Fin 256) : next x (ix2 (rowOf b c) k) = nextRef x (ix3 b c k) := by
  unfold next nextRef
  by_cases h : k.val < 255
  · rw [concatenate_pair_apply_left (α := Bits .f32) (t := S16x256) (s₁ := S16x255) (s₂ := S16x1) 1 _ _ _ _ rfl (ix2 (rowOf b c) ⟨k.val, h⟩)
        (fun a => match a with | ⟨0, _⟩ => rfl | ⟨1, _⟩ => rfl),
      concatenate_pair_apply_left (α := Bits .f32) (t := S4x4x256) (s₁ := SegmentsReference.S4x4x255) (s₂ := SegmentsReference.S4x4x1) 2 _ _ _ _ rfl (ix3 b c ⟨k.val, h⟩)
        (fun a => match a with | ⟨0, _⟩ => rfl | ⟨1, _⟩ => rfl | ⟨2, _⟩ => rfl),
      extractStridedSlice_apply _ _ _ _ (ix2 (rowOf b c) (⟨1 + k.val, by omega⟩ : Fin 256))
        (fun a => match a with | ⟨0, _⟩ => (Nat.zero_add _).symm | ⟨1, _⟩ => rfl),
      extractStridedSlice_apply _ _ _ _ (ix3 b c (⟨1 + k.val, by omega⟩ : Fin 256))
        (fun a => match a with | ⟨0, _⟩ => (Nat.zero_add _).symm | ⟨1, _⟩ => (Nat.zero_add _).symm | ⟨2, _⟩ => rfl)]
    exact table_apply x b c _
  · have hk : 0 + 255 = k.val := by omega
    rw [concatenate_pair_apply_right (α := Bits .f32) (t := S16x256) (s₁ := S16x255) (s₂ := S16x1) 1 _ _ _ (ix2 (rowOf b c) k) rfl rfl (ix2 (rowOf b c) (0 : Fin 1))
        (fun a ha => match a, ha with | ⟨0, _⟩, _ => rfl | ⟨1, _⟩, ha => absurd rfl ha) hk,
      concatenate_pair_apply_right (α := Bits .f32) (t := S4x4x256) (s₁ := SegmentsReference.S4x4x255) (s₂ := SegmentsReference.S4x4x1) 2 _ _ _ (ix3 b c k) rfl rfl (ix3 b c (0 : Fin 1))
        (fun a ha => match a, ha with | ⟨0, _⟩, _ => rfl | ⟨1, _⟩, _ => rfl | ⟨2, _⟩, ha => absurd rfl ha) hk,
      extractStridedSlice_apply _ _ _ _ (ix2 (rowOf b c) (255 : Fin 256))
        (fun a => match a with | ⟨0, _⟩ => (Nat.zero_add _).symm | ⟨1, _⟩ => rfl),
      extractStridedSlice_apply _ _ _ _ (ix3 b c (255 : Fin 256))
        (fun a => match a with | ⟨0, _⟩ => (Nat.zero_add _).symm | ⟨1, _⟩ => (Nat.zero_add _).symm | ⟨2, _⟩ => rfl)]
    exact table_apply x b c _

/-- Rounding an entry to bf16, as a word. -/
def rounded (y : Bits .f32) : BitVec 32 := reducePrecision32 8 7 (BitOps.toBits y)

/-- The packed word of a table's entry. -/
theorem words_apply (b c : Fin 4) (k : Fin 256) :
    words x (ix1 (placeOf b c k)) = rounded (x (ix3 b c k)) >>> 16#32
      ||| (rounded (subf (nextRef x) x (ix3 b c k)) >>> 16#32) <<< 16#32 := by
  have e : words x (ix1 (placeOf b c k))
      = rounded (table x (ix2 (rowOf b c) k)) >>> 16#32
        ||| (rounded (FloatOps.subf (next x (ix2 (rowOf b c) k)) (table x (ix2 (rowOf b c) k))) >>> 16#32) <<< 16#32 :=
    (shapeCast_apply _ _ _ (ix2 (rowOf b c) k) (by
      rw [Shape.rowMajor_val_two, Shape.rowMajor_val_one]
      show (b.val * 4 + c.val) * 256 + k.val = b.val * 1024 + c.val * 256 + k.val
      omega)).trans rfl
  rw [e, table_apply, next_apply]
  rfl

/-- A place read back as a table's entry. -/
theorem place_val (b c : Fin 4) (k : Fin 256) :
    (S4096.rowMajor (ix1 (placeOf b c k))).val = (S4x4x256.rowMajor (ix3 b c k)).val := by
  rw [Shape.rowMajor_val_one, Shape.rowMajor_val_three]
  show b.val * 1024 + c.val * 256 + k.val = (b.val * 4 + c.val) * 256 + k.val
  omega

/-- The low halves are the entries rounded to bf16. -/
theorem lows_eq : lows x = Host.reducePrecision 8 7 x := by
  funext j
  obtain ⟨b, c, k, rfl⟩ : ∃ (b c : Fin 4) (k : Fin 256), j = ix3 b c k := ⟨_, _, _, eq_ix3 j⟩
  refine (shapeCast_apply _ _ _ (ix1 (placeOf b c k)) (place_val _ _ _)).trans ?_
  show FloatOps.ofBits .f32 (IntOp.shli .host (words x (ix1 (placeOf b c k))) 16#32) = FloatOps.ofBits .f32 (rounded (x (ix3 b c k)))
  rw [words_apply]
  exact congrArg (FloatOps.ofBits .f32) (pack_low _ _ (rounded_low _))

/-- The high halves are the rises rounded to bf16. -/
theorem highs_eq : highs x = Host.reducePrecision 8 7 (subf (nextRef x) x) := by
  funext j
  obtain ⟨b, c, k, rfl⟩ : ∃ (b c : Fin 4) (k : Fin 256), j = ix3 b c k := ⟨_, _, _, eq_ix3 j⟩
  refine (shapeCast_apply _ _ _ (ix1 (placeOf b c k)) (place_val _ _ _)).trans ?_
  show FloatOps.ofBits .f32 (words x (ix1 (placeOf b c k)) &&& 4294901760#32) = FloatOps.ofBits .f32 (rounded (subf (nextRef x) x (ix3 b c k)))
  rw [words_apply]
  exact congrArg (FloatOps.ofBits .f32) (pack_high _ _ (rounded_low _))

end Cert.Proof.Packing

end
-- ==== Proof.lean ====
/-
  The certificate of the transfer-function kernel's SparseCore call. The program's run, over any float values, is
  Proof/Launch.lean's `run_main`; the reference's is generated; Proof/Equation.lean says that their results are equal
  over the extended reals. The packing of the tables runs on its own; Proof/Packing.lean says what its words hold.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.Gen.Segments
public import proofs.«01_k».proof.Proof.Gen.Segments.Run
public import proofs.«01_k».proof.Proof.Gen.SegmentsReference
public import proofs.«01_k».proof.Proof.Gen.SegmentsReference.Run
public import proofs.«01_k».proof.Proof.Packing
public import Idealize.ShloMosaic.Adequacy
public import Idealize.ShloMosaic.Init

@[expose] public section

noncomputable section

namespace Cert.Proof

open Idealize.ShloMosaic Idealize.ShloMosaic.TcCoe Idealize.SL.Sem

/-- The kernel ends from any memory, with its image and its table words unchanged and every semaphore at zero: the run
    of the ideal program's text, which is the same, over the bit-exact floats. -/
theorem frame_kernel : Cert.quiescent_Kernel := fun m ρ _ =>
  (θ_run Cert.KernelIdeal.defs _ _).mono (fun _ h => ⟨fun c => ⟨(h.1 c).1, (h.1 c).2.1⟩, h.2⟩) (Sc.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Sc.run_main (F := Ideal) m ρ)

/-- The reference ends with its arguments unchanged; it has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same image and the same table words, the kernel and the reference end with the same result over the
    extended reals. -/
theorem algebraic : Cert.algebraic_KernelIdeal_ReferenceIdeal := by
  intro m ρ m' ρ' _ hagree
  refine ⟨fun c => Sc.V4 m c Sc.r', (θ_run Cert.KernelIdeal.defs _ _).mono (fun _ h c => ⟨(h.1 c).2.2, (h.1 c).1, (h.1 c).2.1⟩)
    (Sc.run_main (F := Ideal) m ρ), ?_⟩
  exact (θ_run Cert.ReferenceIdeal.defs _ _).mono
    (fun _ h c => ⟨(h c).1.trans (results_eq m m' c c (hagree c).1 (hagree c).2), (h c).2⟩)
    (Cert.ReferenceIdeal.Value.run (F := Ideal) m' ρ')

/-- The packing, read back, ends with its table unchanged; it has no semaphore. -/
theorem frame_segments : Cert.quiescent_Segments := fun m ρ _ =>
  (θ_run Cert.Segments.defs _ _).mono
    (fun r h => ⟨fun c => (h c).2.2, Idealize.ShloMosaic.sem_eq_zero_of_no_sems (by decide) r.2⟩)
    (Cert.Segments.Value.run (F := Bits) m ρ)

/-- The plain rounding ends with its table unchanged; it has no semaphore. -/
theorem frame_segmentsReference : Cert.quiescent_SegmentsReference := fun m ρ _ =>
  (θ_run Cert.SegmentsReference.defs _ _).mono
    (fun r h => ⟨fun c => (h c).2.2, Idealize.ShloMosaic.sem_eq_zero_of_no_sems (by decide) r.2⟩)
    (Cert.SegmentsReference.Value.run (F := Bits) m ρ)

/-- From the same table, the halves of the packed words and the plain roundings are the same floats, bit for bit. -/
theorem bitexact : Cert.bitexact_Segments_SegmentsReference := by
  intro m ρ m' ρ' _ hagree
  refine ⟨fun c => Packing.lows (m ((c.tc : Thread Cert.Segments.nD Cert.Segments.τ).loc Cert.Segments.main_arg0)),
    fun c => Packing.highs (m ((c.tc : Thread Cert.Segments.nD Cert.Segments.τ).loc Cert.Segments.main_arg0)),
    Cert.Segments.Value.run (F := Bits) m ρ, ?_⟩
  refine (θ_run Cert.SegmentsReference.defs _ _).mono (fun r h c => ⟨(h c).1.trans ?_, (h c).2.1.trans ?_, (h c).2.2⟩)
    (Cert.SegmentsReference.Value.run (F := Bits) m' ρ')
  · rw [hagree c]
    exact (Packing.lows_eq _).symm
  · rw [hagree c]
    exact (Packing.highs_eq _).symm

/-- Everything claimed. No operation is rewritten between the kernel and the ideal program, so `preserves` has nothing
    to show. -/
theorem claim : Cert.Claim :=
  ⟨Cert.Kernel.Gen.facts, Cert.KernelIdeal.Gen.facts, Cert.ReferenceIdeal.Gen.facts, Cert.Segments.Gen.facts,
    Cert.SegmentsReference.Gen.facts, frame_kernel, frame_kernelIdeal, frame_referenceIdeal, frame_segments,
    frame_segmentsReference, trivial, algebraic, bitexact⟩

end Cert.Proof

end
